-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tree_edges_finite_floats [hPre_tree_edges_finite_floats : Cert.Pre_tree_edges_finite_floats.Facts] (m : (ℓ : Loc Cert.KernelIdeal.nD Cert.KernelIdeal.τ Cert.KernelIdeal.sig) → Buf (Elt Ideal) ℓ) : Prop :=
  ∀ c : Dev Cert.KernelIdeal.nD,
    (Cert.Pre_tree_edges_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_tree_edges_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_tree_edges_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_tree_edges_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_tree_edges_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_tree_edges_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_tree_edges_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree_edges_finite_floats [hPre_tree_edges_finite_floats : Cert.Pre_tree_edges_finite_floats.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree_edges_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_tree_edges_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_tree_edges_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_tree_edges_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_tree_edges_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_tree_edges_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_tree_edges_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_tree_edges_finite_floats [hKernelIdeal : Cert.KernelIdeal.Facts] [hPre_tree_edges_finite_floats : Cert.Pre_tree_edges_finite_floats.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree_edges_finite_floats m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tree_edges_finite_floats [hReferenceIdeal : Cert.ReferenceIdeal.Facts] [hPre_tree_edges_finite_floats : Cert.Pre_tree_edges_finite_floats.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree_edges_finite_floats m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_tree_edges_finite_floats [hKernelIdeal : Cert.KernelIdeal.Facts] [hReferenceIdeal : Cert.ReferenceIdeal.Facts] [hPre_tree_edges_finite_floats : Cert.Pre_tree_edges_finite_floats.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree_edges_finite_floats m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v127)) (v1 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v372) = v0 c
          ∧ r.2.mem ((c.tc : Thread Cert.ReferenceIdeal.nD Cert.ReferenceIdeal.τ).loc Cert.ReferenceIdeal.main_v372) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tree_edges_finite_floats : Cert.Pre_tree_edges_finite_floats.Facts),
    quiescent_Kernel (hKernel := hKernel)
    ∧ quiescent_KernelIdeal (hKernelIdeal := hKernelIdeal)
    ∧ quiescent_KernelIdeal_pre_tree_edges_finite_floats (hKernelIdeal := hKernelIdeal) (hPre_tree_edges_finite_floats := hPre_tree_edges_finite_floats)
    ∧ quiescent_ReferenceIdeal (hReferenceIdeal := hReferenceIdeal)
    ∧ quiescent_ReferenceIdeal_pre_tree_edges_finite_floats (hReferenceIdeal := hReferenceIdeal) (hPre_tree_edges_finite_floats := hPre_tree_edges_finite_floats)
    ∧ preserves_Kernel_KernelIdeal
    ∧ algebraic_KernelIdeal_ReferenceIdeal_pre_tree_edges_finite_floats (hKernelIdeal := hKernelIdeal) (hReferenceIdeal := hReferenceIdeal) (hPre_tree_edges_finite_floats := hPre_tree_edges_finite_floats)
-- ==== Pre_tree_edges_finite_floats.lean ====
abbrev S100000 : Shape := ⟨1, ![100000]⟩
abbrev S2x99990 : Shape := ⟨2, ![2, 99990]⟩
abbrev S99990 : Shape := ⟨1, ![99990]⟩
abbrev S100x64 : Shape := ⟨2, ![100, 64]⟩
abbrev S10000x64 : Shape := ⟨2, ![10000, 64]⟩
abbrev S4x128x128 : Shape := ⟨3, ![4, 128, 128]⟩
abbrev S4x1x128 : Shape := ⟨3, ![4, 1, 128]⟩
abbrev S1024x16x10x4 : Shape := ⟨4, ![1024, 16, 10, 4]⟩
abbrev S_ : Shape := ⟨0, ![]⟩
abbrev S1x99990 : Shape := ⟨2, ![1, 99990]⟩

class Facts : Prop where
  bcast_S_S99990 : S_.BroadcastsInDim S99990 (![] : Fin 0 → Fin S99990.rank)
  slices_S2x99990_S1x99990_0_0 : S2x99990.Slices ![0, 0] S1x99990
  shapeCasts_S1x99990_S99990 : S1x99990.ShapeCasts S99990
  slices_S2x99990_S1x99990_1_0 : S2x99990.Slices ![1, 0] S1x99990
  bcast_S_S100x64 : S_.BroadcastsInDim S100x64 (![] : Fin 0 → Fin S100x64.rank)
  bcast_S_S10000x64 : S_.BroadcastsInDim S10000x64 (![] : Fin 0 → Fin S10000x64.rank)
  bcast_S_S4x128x128 : S_.BroadcastsInDim S4x128x128 (![] : Fin 0 → Fin S4x128x128.rank)

variable [Facts]

def fn_part1 {F : FTy → Type} [FloatOps F] (main_arg3 : IVec S99990 32) (main_arg4 : FVec F S100x64 .f32) (main_arg5 : FVec F S10000x64 .f32) (main_arg6 : FVec F S4x128x128 .f32) (main_arg7 : FVec F S4x128x128 .f32) (main_v2 : IVec S99990 32) (main_v12 : IVec S99990 1) (main_v18 : IVec S99990 1) : IVec S99990 1 × IVec S99990 1 × IVec S99990 1 × IVec S100x64 1 × IVec S10000x64 1 × IVec S4x128x128 1 × IVec S4x128x128 1 :=
  let main_c_4 : IVec S_ 32 := constantI S_ 32 16#32
  let main_v19 : IVec S99990 32 := broadcastInDim S99990 ![] bcast_S_S99990 main_c_4
  let main_v20 : IVec S99990 32 := Host.remsi main_v2 main_v19
  let main_v21 : IVec S99990 1 := cmpi .eq main_arg3 main_v20
  let main_v22 : FVec F S100x64 .f32 := Host.absf main_arg4
  let main_cst : FVec F S_ .f32 := constant S_ .f32 0x7F800000#32
  let main_v23 : FVec F S100x64 .f32 := broadcastInDim S100x64 ![] bcast_S_S100x64 main_cst
  let main_v24 : IVec S100x64 1 := cmpf .olt main_v22 main_v23
  let main_v25 : FVec F S10000x64 .f32 := Host.absf main_arg5
  let main_cst_5 : FVec F S_ .f32 := constant S_ .f32 0x7F800000#32
  let main_v26 : FVec F S10000x64 .f32 := broadcastInDim S10000x64 ![] bcast_S_S10000x64 main_cst_5
  let main_v27 : IVec S10000x64 1 := cmpf .olt main_v25 main_v26
  let main_v28 : FVec F S4x128x128 .f32 := Host.absf main_arg6
  let main_cst_6 : FVec F S_ .f32 := constant S_ .f32 0x7F800000#32
  let main_v29 : FVec F S4x128x128 .f32 := broadcastInDim S4x128x128 ![] bcast_S_S4x128x128 main_cst_6
  let main_v30 : IVec S4x128x128 1 := cmpf .olt main_v28 main_v29
  let main_v31 : FVec F S4x128x128 .f32 := Host.absf main_arg7
  let main_cst_7 : FVec F S_ .f32 := constant S_ .f32 0x7F800000#32
  let main_v32 : FVec F S4x128x128 .f32 := broadcastInDim S4x128x128 ![] bcast_S_S4x128x128 main_cst_7
  let main_v33 : IVec S4x128x128 1 := cmpf .olt main_v31 main_v32
  (main_v12, main_v18, main_v21, main_v24, main_v27, main_v30, main_v33)

def fn {F : FTy → Type} [FloatOps F] (main_arg0 : IVec S100000 32) (main_arg1 : IVec S100000 32) (main_arg2 : IVec S2x99990 32) (main_arg3 : IVec S99990 32) (main_arg4 : FVec F S100x64 .f32) (main_arg5 : FVec F S10000x64 .f32) (main_arg6 : FVec F S4x128x128 .f32) (main_arg7 : FVec F S4x128x128 .f32) (main_arg8 : FVec F S4x128x128 .f32) (main_arg9 : FVec F S4x1x128 .f32) (main_arg10 : FVec F S1024x16x10x4 .f32) : IVec S99990 1 × IVec S99990 1 × IVec S99990 1 × IVec S100x64 1 × IVec S10000x64 1 × IVec S4x128x128 1 × IVec S4x128x128 1 :=
  let main_v0 : IVec S99990 32 := iotaInDim S99990 32 0
  let main_c : IVec S_ 32 := constantI S_ 32 9999#32
  let main_v1 : IVec S99990 32 := broadcastInDim S99990 ![] bcast_S_S99990 main_c
  let main_v2 : IVec S99990 32 := Host.remsi main_v0 main_v1
  let main_c_0 : IVec S_ 32 := constantI S_ 32 9999#32
  let main_v3 : IVec S99990 32 := broadcastInDim S99990 ![] bcast_S_S99990 main_c_0
  let main_v4 : IVec S99990 32 := Host.divsi main_v0 main_v3
  let main_c_1 : IVec S_ 32 := constantI S_ 32 10000#32
  let main_v5 : IVec S99990 32 := broadcastInDim S99990 ![] bcast_S_S99990 main_c_1
  let main_v6 : IVec S99990 32 := muli main_v4 main_v5
  let main_v7 : IVec S1x99990 32 := (extractStridedSlice S1x99990 ![0, 0] · slices_S2x99990_S1x99990_0_0) main_arg2
  let main_v8 : IVec S99990 32 := shapeCast S99990 main_v7 shapeCasts_S1x99990_S99990
  let main_c_2 : IVec S_ 32 := constantI S_ 32 1#32
  let main_v9 : IVec S99990 32 := broadcastInDim S99990 ![] bcast_S_S99990 main_c_2
  let main_v10 : IVec S99990 32 := addi main_v2 main_v9
  let main_v11 : IVec S99990 32 := addi main_v10 main_v6
  let main_v12 : IVec S99990 1 := cmpi .eq main_v8 main_v11
  let main_v13 : IVec S1x99990 32 := (extractStridedSlice S1x99990 ![1, 0] · slices_S2x99990_S1x99990_1_0) main_arg2
  let main_v14 : IVec S99990 32 := shapeCast S99990 main_v13 shapeCasts_S1x99990_S99990
  let main_c_3 : IVec S_ 32 := constantI S_ 32 16#32
  let main_v15 : IVec S99990 32 := broadcastInDim S99990 ![] bcast_S_S99990 main_c_3
  let main_v16 : IVec S99990 32 := Host.divsi main_v2 main_v15
  let main_v17 : IVec S99990 32 := addi main_v16 main_v6
  let main_v18 : IVec S99990 1 := cmpi .eq main_v14 main_v17
  fn_part1 (F := F) main_arg3 main_arg4 main_arg5 main_arg6 main_arg7 main_v2 main_v12 main_v18
-- ==== Kernel.lean ====
abbrev S100000 : Shape := ⟨1, ![100000]⟩
abbrev S2x99990 : Shape := ⟨2, ![2, 99990]⟩
abbrev S99990 : Shape := ⟨1, ![99990]⟩
abbrev S100x64 : Shape := ⟨2, ![100, 64]⟩
abbrev S10000x64 : Shape := ⟨2, ![10000, 64]⟩
abbrev S4x128x128 : Shape := ⟨3, ![4, 128, 128]⟩
abbrev S4x1x128 : Shape := ⟨3, ![4, 1, 128]⟩
abbrev S1024x16x10x4 : Shape := ⟨4, ![1024, 16, 10, 4]⟩
abbrev S10x160 : Shape := ⟨2, ![10, 160]⟩
abbrev S4x4 : Shape := ⟨2, ![4, 4]⟩
abbrev S10x128 : Shape := ⟨2, ![10, 128]⟩
abbrev S_ : Shape := ⟨0, ![]⟩
abbrev S100000x1 : Shape := ⟨2, ![100000, 1]⟩
abbrev S100000x64 : Shape := ⟨2, ![100000, 64]⟩
abbrev S100000x128 : Shape := ⟨2, ![100000, 128]⟩
abbrev S10x10000x128 : Shape := ⟨3, ![10, 10000, 128]⟩
abbrev S10x632x128 : Shape := ⟨3, ![10, 632, 128]⟩
abbrev S10x9999x128 : Shape := ⟨3, ![10, 9999, 128]⟩
abbrev S10x10112x128 : Shape := ⟨3, ![10, 10112, 128]⟩
abbrev S10x632x16x128 : Shape := ⟨4, ![10, 632, 16, 128]⟩
abbrev S632x16x1 : Shape := ⟨3, ![632, 16, 1]⟩
abbrev S48x632 : Shape := ⟨2, ![48, 632]⟩
abbrev S10x10000x1 : Shape := ⟨3, ![10, 10000, 1]⟩
abbrev S1x10000x128 : Shape := ⟨3, ![1, 10000, 128]⟩
abbrev S1x10000x1 : Shape := ⟨3, ![1, 10000, 1]⟩
abbrev S10000x128 : Shape := ⟨2, ![10000, 128]⟩
abbrev S10000 : Shape := ⟨1, ![10000]⟩
abbrev S10000x1 : Shape := ⟨2, ![10000, 1]⟩
abbrev S10x632x1 : Shape := ⟨3, ![10, 632, 1]⟩
abbrev S10x4x632x128 : Shape := ⟨4, ![10, 4, 632, 128]⟩
abbrev S1x632x128 : Shape := ⟨3, ![1, 632, 128]⟩
abbrev S1x632x16x128 : Shape := ⟨4, ![1, 632, 16, 128]⟩
abbrev S1x632x1 : Shape := ⟨3, ![1, 632, 1]⟩
abbrev S1x4x632x128 : Shape := ⟨4, ![1, 4, 632, 128]⟩
abbrev S632x16x128 : Shape := ⟨3, ![632, 16, 128]⟩
abbrev S632x128 : Shape := ⟨2, ![632, 128]⟩
abbrev S584x128 : Shape := ⟨2, ![584, 128]⟩
abbrev S632x1 : Shape := ⟨2, ![632, 1]⟩
abbrev S48x128 : Shape := ⟨2, ![48, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S1x1x632x128 : Shape := ⟨4, ![1, 1, 632, 128]⟩
abbrev S632 : Shape := ⟨1, ![632]⟩
abbrev S10x625x1 : Shape := ⟨3, ![10, 625, 1]⟩
abbrev S10x625 : Shape := ⟨2, ![10, 625]⟩
abbrev S10x9375x1 : Shape := ⟨3, ![10, 9375, 1]⟩
abbrev S10x9375 : Shape := ⟨2, ![10, 9375]⟩
abbrev S10x10000 : Shape := ⟨2, ![10, 10000]⟩
abbrev S10x16 : Shape := ⟨2, ![10, 16]⟩
abbrev S10 : Shape := ⟨1, ![10]⟩
abbrev S10x1 : Shape := ⟨2, ![10, 1]⟩
abbrev S10x16x1 : Shape := ⟨3, ![10, 16, 1]⟩
abbrev S10x16x2 : Shape := ⟨3, ![10, 16, 2]⟩
abbrev S10x16x4x128 : Shape := ⟨4, ![10, 16, 4, 128]⟩
abbrev S10x16x128x4 : Shape := ⟨4, ![10, 16, 128, 4]⟩
abbrev S10x16x128 : Shape := ⟨3, ![10, 16, 128]⟩
abbrev S10x16x128x1 : Shape := ⟨4, ![10, 16, 128, 1]⟩
abbrev S10x16x1x1 : Shape := ⟨4, ![10, 16, 1, 1]⟩
abbrev S10x2048x4 : Shape := ⟨3, ![10, 2048, 4]⟩
abbrev S10x4x2048 : Shape := ⟨3, ![10, 4, 2048]⟩
abbrev S4x1024x10x16 : Shape := ⟨4, ![4, 1024, 10, 16]⟩
abbrev S4x1024x160 : Shape := ⟨3, ![4, 1024, 160]⟩
abbrev S10x8x128 : Shape := ⟨3, ![10, 8, 128]⟩
abbrev S1x4x2048 : Shape := ⟨3, ![1, 4, 2048]⟩
abbrev S1x8x128 : Shape := ⟨3, ![1, 8, 128]⟩
abbrev S4x2048 : Shape := ⟨2, ![4, 2048]⟩
abbrev S4x1024 : Shape := ⟨2, ![4, 1024]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S1024x4 : Shape := ⟨2, ![1024, 4]⟩
abbrev S1024x160 : Shape := ⟨2, ![1024, 160]⟩
abbrev S1x1024x160 : Shape := ⟨3, ![1, 1024, 160]⟩
abbrev S1024x1 : Shape := ⟨2, ![1024, 1]⟩
abbrev S1024x10 : Shape := ⟨2, ![1024, 10]⟩
abbrev S160 : Shape := ⟨1, ![160]⟩
abbrev S1x160 : Shape := ⟨2, ![1, 160]⟩
abbrev S1x10 : Shape := ⟨2, ![1, 10]⟩
abbrev S8x128 : Shape := ⟨2, ![8, 128]⟩
abbrev S10x1x10 : Shape := ⟨3, ![10, 1, 10]⟩
abbrev S10x10 : Shape := ⟨2, ![10, 10]⟩

abbrev nBuf : Space → Nat
  | .hbm => 187
  | .vmem => 28
  | .smem => 0
  | _ => 0

abbrev hbmTy0_0 (i : Nat) : BufTy := match i % 128 with
  | 0 => ⟨S100000, .i32⟩
  | 1 => ⟨S100000, .i32⟩
  | 2 => ⟨S2x99990, .i32⟩
  | 3 => ⟨S99990, .i32⟩
  | 4 => ⟨S100x64, .f32⟩
  | 5 => ⟨S10000x64, .f32⟩
  | 6 => ⟨S4x128x128, .f32⟩
  | 7 => ⟨S4x128x128, .f32⟩
  | 8 => ⟨S4x128x128, .f32⟩
  | 9 => ⟨S4x1x128, .f32⟩
  | 10 => ⟨S1024x16x10x4, .f32⟩
  | 11 => ⟨S10x160, .f32⟩
  | 12 => ⟨S4x4, .f32⟩
  | 13 => ⟨S10x128, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x64, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x64, .f32⟩
  | 32 => ⟨S100000x128, .f32⟩
  | 33 => ⟨S10x10000x128, .f32⟩
  | 34 => ⟨S10x632x128, .f32⟩
  | 35 => ⟨S10x9999x128, .f32⟩
  | 36 => ⟨S_, .i32⟩
  | 37 => ⟨S_, .f32⟩
  | 38 => ⟨S10x10112x128, .f32⟩
  | 39 => ⟨S10x632x16x128, .f32⟩
  | 40 => ⟨S632x16x1, .i32⟩
  | 41 => ⟨S632x16x1, .i32⟩
  | 42 => ⟨S632x16x1, .f32⟩
  | 43 => ⟨S_, .f32⟩
  | 44 => ⟨S632x16x1, .f32⟩
  | 45 => ⟨S_, .i32⟩
  | 46 => ⟨S632x16x1, .i32⟩
  | 47 => ⟨S632x16x1, .i1⟩
  | 48 => ⟨S_, .i32⟩
  | 49 => ⟨S632x16x1, .i32⟩
  | 50 => ⟨S632x16x1, .i1⟩
  | 51 => ⟨S_, .i32⟩
  | 52 => ⟨S632x16x1, .i32⟩
  | 53 => ⟨S632x16x1, .i1⟩
  | 54 => ⟨S632x16x1, .i1⟩
  | 55 => ⟨S_, .f32⟩
  | 56 => ⟨S632x16x1, .f32⟩
  | 57 => ⟨S632x16x1, .f32⟩
  | 58 => ⟨S_, .f32⟩
  | 59 => ⟨S632x16x1, .f32⟩
  | 60 => ⟨S632x16x1, .f32⟩
  | 61 => ⟨S_, .f32⟩
  | 62 => ⟨S632x16x1, .f32⟩
  | 63 => ⟨S632x16x1, .f32⟩
  | 64 => ⟨S_, .f32⟩
  | 65 => ⟨S632x16x1, .f32⟩
  | 66 => ⟨S632x16x1, .f32⟩
  | 67 => ⟨S632x16x1, .f32⟩
  | 68 => ⟨S632x16x1, .f32⟩
  | 69 => ⟨S_, .f32⟩
  | 70 => ⟨S632x16x1, .f32⟩
  | 71 => ⟨S632x16x1, .f32⟩
  | 72 => ⟨S_, .f32⟩
  | 73 => ⟨S632x16x1, .f32⟩
  | 74 => ⟨S632x16x1, .f32⟩
  | 75 => ⟨S632x16x1, .f32⟩
  | 76 => ⟨S632x16x1, .f32⟩
  | 77 => ⟨S48x632, .i32⟩
  | 78 => ⟨S48x632, .i32⟩
  | 79 => ⟨S_, .i32⟩
  | 80 => ⟨S48x632, .i32⟩
  | 81 => ⟨S48x632, .i32⟩
  | 82 => ⟨S_, .i32⟩
  | 83 => ⟨S48x632, .i32⟩
  | 84 => ⟨S48x632, .i32⟩
  | 85 => ⟨S48x632, .i32⟩
  | 86 => ⟨S48x632, .f32⟩
  | 87 => ⟨S_, .f32⟩
  | 88 => ⟨S48x632, .f32⟩
  | 89 => ⟨S_, .i32⟩
  | 90 => ⟨S48x632, .i32⟩
  | 91 => ⟨S48x632, .i1⟩
  | 92 => ⟨S_, .i32⟩
  | 93 => ⟨S48x632, .i32⟩
  | 94 => ⟨S48x632, .i1⟩
  | 95 => ⟨S48x632, .i1⟩
  | 96 => ⟨S_, .i32⟩
  | 97 => ⟨S48x632, .i32⟩
  | 98 => ⟨S48x632, .i1⟩
  | 99 => ⟨S48x632, .i1⟩
  | 100 => ⟨S_, .f32⟩
  | 101 => ⟨S48x632, .f32⟩
  | 102 => ⟨S48x632, .f32⟩
  | 103 => ⟨S_, .f32⟩
  | 104 => ⟨S48x632, .f32⟩
  | 105 => ⟨S48x632, .f32⟩
  | 106 => ⟨S48x632, .f32⟩
  | 107 => ⟨S_, .f32⟩
  | 108 => ⟨S48x632, .f32⟩
  | 109 => ⟨S48x632, .f32⟩
  | 110 => ⟨S48x632, .f32⟩
  | 111 => ⟨S10x10000x1, .f32⟩
  | 112 => ⟨S10x632x1, .f32⟩
  | 113 => ⟨S10x4x632x128, .f32⟩
  | 114 => ⟨S10x625x1, .f32⟩
  | 115 => ⟨S10x625, .f32⟩
  | 116 => ⟨S10x9375x1, .f32⟩
  | 117 => ⟨S10x9375, .f32⟩
  | 118 => ⟨S10x10000, .f32⟩
  | 119 => ⟨S10x16, .f32⟩
  | 120 => ⟨S10x16, .i32⟩
  | 121 => ⟨S10, .i32⟩
  | 122 => ⟨S10x1, .i32⟩
  | 123 => ⟨S_, .i32⟩
  | 124 => ⟨S_, .i32⟩
  | 125 => ⟨S_, .i32⟩
  | 126 => ⟨S10x16, .i32⟩
  | 127 => ⟨S10x16, .i32⟩
  | _ => ⟨S100000, .i32⟩

abbrev hbmTy0_1 (i : Nat) : BufTy := match i % 128 with
  | 0 => ⟨S_, .i32⟩
  | 1 => ⟨S10x16, .i32⟩
  | 2 => ⟨S10x16, .i32⟩
  | 3 => ⟨S_, .i32⟩
  | 4 => ⟨S10x1, .i32⟩
  | 5 => ⟨S10x1, .i1⟩
  | 6 => ⟨S_, .i32⟩
  | 7 => ⟨S10x1, .i32⟩
  | 8 => ⟨S10x1, .i32⟩
  | 9 => ⟨S10x1, .i32⟩
  | 10 => ⟨S_, .i32⟩
  | 11 => ⟨S10x16, .i32⟩
  | 12 => ⟨S10x16, .i1⟩
  | 13 => ⟨S_, .i32⟩
  | 14 => ⟨S10x16, .i32⟩
  | 15 => ⟨S10x16, .i32⟩
  | 16 => ⟨S10x16, .i32⟩
  | 17 => ⟨S10x16, .i32⟩
  | 18 => ⟨S10x16x1, .i32⟩
  | 19 => ⟨S10x16x1, .i32⟩
  | 20 => ⟨S10x16x2, .i32⟩
  | 21 => ⟨S10x16x4x128, .f32⟩
  | 22 => ⟨S10x16x128x4, .f32⟩
  | 23 => ⟨S_, .i32⟩
  | 24 => ⟨S10x1, .i32⟩
  | 25 => ⟨S10x1, .i1⟩
  | 26 => ⟨S_, .i32⟩
  | 27 => ⟨S10x1, .i32⟩
  | 28 => ⟨S10x1, .i32⟩
  | 29 => ⟨S10x1, .i32⟩
  | 30 => ⟨S_, .i32⟩
  | 31 => ⟨S10x16, .i32⟩
  | 32 => ⟨S10x16, .i1⟩
  | 33 => ⟨S_, .i32⟩
  | 34 => ⟨S10x16, .i32⟩
  | 35 => ⟨S10x16, .i32⟩
  | 36 => ⟨S10x16, .i32⟩
  | 37 => ⟨S10x16, .i32⟩
  | 38 => ⟨S10x16x1, .i32⟩
  | 39 => ⟨S10x16x1, .i32⟩
  | 40 => ⟨S10x16x2, .i32⟩
  | 41 => ⟨S10x16x128, .f32⟩
  | 42 => ⟨S10x16x128x1, .f32⟩
  | 43 => ⟨S_, .i32⟩
  | 44 => ⟨S10x16, .i32⟩
  | 45 => ⟨S10x16, .i1⟩
  | 46 => ⟨S10x16x1x1, .i1⟩
  | 47 => ⟨S10x16x128x4, .f32⟩
  | 48 => ⟨S10x16x128x4, .i1⟩
  | 49 => ⟨S10x16x128x4, .f32⟩
  | 50 => ⟨S10x2048x4, .f32⟩
  | 51 => ⟨S10x4x2048, .f32⟩
  | 52 => ⟨S4x1024x10x16, .f32⟩
  | 53 => ⟨S4x1024x160, .f32⟩
  | 54 => ⟨S4x1024x160, .bf16⟩
  | 55 => ⟨S4x1024x160, .f32⟩
  | 56 => ⟨S10x8x128, .f32⟩
  | 57 => ⟨S10x1x10, .f32⟩
  | 58 => ⟨S10x10, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S1x10000x128, .f32⟩
  | .local _ .vmem, ⟨1, _⟩ => ⟨S1x10000x128, .f32⟩
  | .local _ .vmem, ⟨2, _⟩ => ⟨S1x10000x1, .f32⟩
  | .local _ .vmem, ⟨3, _⟩ => ⟨S1x10000x1, .f32⟩
  | .local _ .vmem, ⟨4, _⟩ => ⟨S1x632x128, .f32⟩
  | .local _ .vmem, ⟨5, _⟩ => ⟨S1x632x128, .f32⟩
  | .local _ .vmem, ⟨6, _⟩ => ⟨S1x632x16x128, .f32⟩
  | .local _ .vmem, ⟨7, _⟩ => ⟨S1x632x16x128, .f32⟩
  | .local _ .vmem, ⟨8, _⟩ => ⟨S632x16x1, .f32⟩
  | .local _ .vmem, ⟨9, _⟩ => ⟨S632x16x1, .f32⟩
  | .local _ .vmem, ⟨10, _⟩ => ⟨S48x632, .f32⟩
  | .local _ .vmem, ⟨11, _⟩ => ⟨S48x632, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S4x1x128, .f32⟩
  | .local _ .vmem, ⟨16, _⟩ => ⟨S1x632x1, .f32⟩
  | .local _ .vmem, ⟨17, _⟩ => ⟨S1x632x1, .f32⟩
  | .local _ .vmem, ⟨18, _⟩ => ⟨S1x4x632x128, .f32⟩
  | .local _ .vmem, ⟨19, _⟩ => ⟨S1x4x632x128, .f32⟩
  | .local _ .vmem, ⟨20, _⟩ => ⟨S1x4x2048, .f32⟩
  | .local _ .vmem, ⟨21, _⟩ => ⟨S1x4x2048, .f32⟩
  | .local _ .vmem, ⟨22, _⟩ => ⟨S4x1024x160, .f32⟩
  | .local _ .vmem, ⟨23, _⟩ => ⟨S10x160, .f32⟩
  | .local _ .vmem, ⟨24, _⟩ => ⟨S4x4, .f32⟩
  | .local _ .vmem, ⟨25, _⟩ => ⟨S10x128, .f32⟩
  | .local _ .vmem, ⟨26, _⟩ => ⟨S1x8x128, .f32⟩
  | .local _ .vmem, ⟨27, _⟩ => ⟨S1x8x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_2 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_3 : Ref sig .tc := ⟨.hbm, 23, rfl⟩
abbrev main_v7 : Ref sig .tc := ⟨.hbm, 24, rfl⟩
abbrev main_v8 : Ref sig .tc := ⟨.hbm, 25, rfl⟩
abbrev main_c_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_call0_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_cst_11 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_v35 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_16 : Ref sig .tc := ⟨.hbm, 79, rfl⟩
abbrev main_v49 : Ref sig .tc := ⟨.hbm, 80, rfl⟩
abbrev main_v50 : Ref sig .tc := ⟨.hbm, 81, rfl⟩
abbrev main_c_17 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_18 : Ref sig .tc := ⟨.hbm, 87, rfl⟩
abbrev main_v55 : Ref sig .tc := ⟨.hbm, 88, rfl⟩
abbrev main_c_19 : Ref sig .tc := ⟨.hbm, 89, rfl⟩
abbrev main_v56 : Ref sig .tc := ⟨.hbm, 90, rfl⟩
abbrev main_v57 : Ref sig .tc := ⟨.hbm, 91, rfl⟩
abbrev main_c_20 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_21 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_22 : Ref sig .tc := ⟨.hbm, 100, rfl⟩
abbrev main_v64 : Ref sig .tc := ⟨.hbm, 101, rfl⟩
abbrev main_v65 : Ref sig .tc := ⟨.hbm, 102, rfl⟩
abbrev main_cst_23 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_24 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73_0 : Ref sig .tc := ⟨.hbm, 112, rfl⟩
abbrev main_v73_1 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_values : Ref sig .tc := ⟨.hbm, 119, rfl⟩
abbrev main_indices : Ref sig .tc := ⟨.hbm, 120, rfl⟩
abbrev main_v79 : Ref sig .tc := ⟨.hbm, 121, rfl⟩
abbrev main_v80 : Ref sig .tc := ⟨.hbm, 122, rfl⟩
abbrev main_c_25 : Ref sig .tc := ⟨.hbm, 123, rfl⟩
abbrev main_c_26 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_v81 : Ref sig .tc := ⟨.hbm, 130, rfl⟩
abbrev main_c_27 : Ref sig .tc := ⟨.hbm, 131, rfl⟩
abbrev main_v82 : Ref sig .tc := ⟨.hbm, 132, rfl⟩
abbrev main_v83 : Ref sig .tc := ⟨.hbm, 133, rfl⟩
abbrev main_c_28 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_29 : Ref sig .tc := ⟨.hbm, 138, rfl⟩
abbrev main_v87 : Ref sig .tc := ⟨.hbm, 139, rfl⟩
abbrev main_v88 : Ref sig .tc := ⟨.hbm, 140, rfl⟩
abbrev main_c_30 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_31 : Ref sig .tc := ⟨.hbm, 151, rfl⟩
abbrev main_v98 : Ref sig .tc := ⟨.hbm, 152, rfl⟩
abbrev main_v99 : Ref sig .tc := ⟨.hbm, 153, rfl⟩
abbrev main_c_32 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_c_33 : Ref sig .tc := ⟨.hbm, 158, rfl⟩
abbrev main_v103 : Ref sig .tc := ⟨.hbm, 159, rfl⟩
abbrev main_v104 : Ref sig .tc := ⟨.hbm, 160, rfl⟩
abbrev main_c_34 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_c_35 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_call2_v0 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg10_1 : Ref sig .tc := ⟨.vmem, 17, rfl⟩
abbrev cc1_stg11_0 : Ref sig .tc := ⟨.vmem, 18, rfl⟩
abbrev cc1_stg11_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem10_1 : DmaSem sig := 17
abbrev cc1_sem11_0 : DmaSem sig := 18
abbrev cc1_sem11_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x632x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x632x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S632x16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S632x16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S48x632 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S48x632 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x632x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x4x632x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x1024x160 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10x160 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S100000 : Shape := ⟨1, ![100000]⟩
abbrev S2x99990 : Shape := ⟨2, ![2, 99990]⟩
abbrev S99990 : Shape := ⟨1, ![99990]⟩
abbrev S100x64 : Shape := ⟨2, ![100, 64]⟩
abbrev S10000x64 : Shape := ⟨2, ![10000, 64]⟩
abbrev S4x128x128 : Shape := ⟨3, ![4, 128, 128]⟩
abbrev S4x1x128 : Shape := ⟨3, ![4, 1, 128]⟩
abbrev S1024x16x10x4 : Shape := ⟨4, ![1024, 16, 10, 4]⟩
abbrev S1x99990 : Shape := ⟨2, ![1, 99990]⟩
abbrev S_ : Shape := ⟨0, ![]⟩
abbrev S100000x1 : Shape := ⟨2, ![100000, 1]⟩
abbrev S100000x64 : Shape := ⟨2, ![100000, 64]⟩
abbrev S100000x128 : Shape := ⟨2, ![100000, 128]⟩
abbrev S99990x1 : Shape := ⟨2, ![99990, 1]⟩
abbrev S99990x128 : Shape := ⟨2, ![99990, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S100000x128x1 : Shape := ⟨3, ![100000, 128, 1]⟩
abbrev S100000x128x4 : Shape := ⟨3, ![100000, 128, 4]⟩
abbrev S10x10000x128x4 : Shape := ⟨4, ![10, 10000, 128, 4]⟩
abbrev S10x10000x512 : Shape := ⟨3, ![10, 10000, 512]⟩
abbrev S10x10000 : Shape := ⟨2, ![10, 10000]⟩
abbrev S10x16 : Shape := ⟨2, ![10, 16]⟩
abbrev S10 : Shape := ⟨1, ![10]⟩
abbrev S10x1 : Shape := ⟨2, ![10, 1]⟩
abbrev S10x16x1 : Shape := ⟨3, ![10, 16, 1]⟩
abbrev S10x16x2 : Shape := ⟨3, ![10, 16, 2]⟩
abbrev S10x16x128x4 : Shape := ⟨4, ![10, 16, 128, 4]⟩
abbrev S10x2048x4 : Shape := ⟨3, ![10, 2048, 4]⟩
abbrev S10x8 : Shape := ⟨2, ![10, 8]⟩
abbrev S10x8x1 : Shape := ⟨3, ![10, 8, 1]⟩
abbrev S10x8x2 : Shape := ⟨3, ![10, 8, 2]⟩
abbrev S10x8x128x4 : Shape := ⟨4, ![10, 8, 128, 4]⟩
abbrev S10x1024x4 : Shape := ⟨3, ![10, 1024, 4]⟩
abbrev S10x2048x1024 : Shape := ⟨3, ![10, 2048, 1024]⟩
abbrev S10x2048 : Shape := ⟨2, ![10, 2048]⟩
abbrev S10x2048x1 : Shape := ⟨3, ![10, 2048, 1]⟩
abbrev S10x1024 : Shape := ⟨2, ![10, 1024]⟩
abbrev S10x1024x1 : Shape := ⟨3, ![10, 1024, 1]⟩
abbrev S1024x10x16x10 : Shape := ⟨4, ![1024, 10, 16, 10]⟩
abbrev S10x1024x10x16 : Shape := ⟨4, ![10, 1024, 10, 16]⟩
abbrev S10x1024x10 : Shape := ⟨3, ![10, 1024, 10]⟩
abbrev S10x10x16 : Shape := ⟨3, ![10, 10, 16]⟩
abbrev S10x10 : Shape := ⟨2, ![10, 10]⟩
abbrev S10x10x1 : Shape := ⟨3, ![10, 10, 1]⟩
abbrev S10x10x1024 : Shape := ⟨3, ![10, 10, 1024]⟩

abbrev nBuf : Space → Nat
  | .hbm => 479
  | .vmem => 0
  | .smem => 0
  | _ => 0

abbrev hbmTy0_0 (i : Nat) : BufTy := match i % 128 with
  | 0 => ⟨S100000, .i32⟩
  | 1 => ⟨S100000, .i32⟩
  | 2 => ⟨S2x99990, .i32⟩
  | 3 => ⟨S99990, .i32⟩
  | 4 => ⟨S100x64, .f32⟩
  | 5 => ⟨S10000x64, .f32⟩
  | 6 => ⟨S4x128x128, .f32⟩
  | 7 => ⟨S4x128x128, .f32⟩
  | 8 => ⟨S4x128x128, .f32⟩
  | 9 => ⟨S4x1x128, .f32⟩
  | 10 => ⟨S1024x16x10x4, .f32⟩
  | 11 => ⟨S1x99990, .i32⟩
  | 12 => ⟨S99990, .i32⟩
  | 13 => ⟨S1x99990, .i32⟩
  | 14 => ⟨S99990, .i32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x64, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x64, .f32⟩
  | 33 => ⟨S100000x128, .f32⟩
  | 34 => ⟨S_, .f32⟩
  | 35 => ⟨S99990, .f32⟩
  | 36 => ⟨S_, .f32⟩
  | 37 => ⟨S100000, .f32⟩
  | 38 => ⟨S99990x1, .i32⟩
  | 39 => ⟨S100000, .f32⟩
  | 40 => ⟨S_, .i32⟩
  | 41 => ⟨S99990, .i32⟩
  | 42 => ⟨S99990, .i1⟩
  | 43 => ⟨S_, .i32⟩
  | 44 => ⟨S99990, .i32⟩
  | 45 => ⟨S99990, .i32⟩
  | 46 => ⟨S99990, .i32⟩
  | 47 => ⟨S99990x1, .i32⟩
  | 48 => ⟨S99990, .f32⟩
  | 49 => ⟨S99990, .f32⟩
  | 50 => ⟨S_, .f32⟩
  | 51 => ⟨S99990, .f32⟩
  | 52 => ⟨S99990, .f32⟩
  | 53 => ⟨S_, .f32⟩
  | 54 => ⟨S99990, .f32⟩
  | 55 => ⟨S99990, .f32⟩
  | 56 => ⟨S_, .f32⟩
  | 57 => ⟨S99990, .f32⟩
  | 58 => ⟨S99990, .i1⟩
  | 59 => ⟨S_, .f32⟩
  | 60 => ⟨S99990, .f32⟩
  | 61 => ⟨S99990, .f32⟩
  | 62 => ⟨S99990, .f32⟩
  | 63 => ⟨S99990, .f32⟩
  | 64 => ⟨S_, .f32⟩
  | 65 => ⟨S_, .f32⟩
  | 66 => ⟨S99990, .f32⟩
  | 67 => ⟨S99990, .f32⟩
  | 68 => ⟨S_, .f32⟩
  | 69 => ⟨S99990, .f32⟩
  | 70 => ⟨S99990, .i1⟩
  | 71 => ⟨S99990, .f32⟩
  | 72 => ⟨S_, .f32⟩
  | 73 => ⟨S_, .f32⟩
  | 74 => ⟨S99990, .f32⟩
  | 75 => ⟨S99990, .f32⟩
  | 76 => ⟨S_, .f32⟩
  | 77 => ⟨S100000, .f32⟩
  | 78 => ⟨S100000, .i1⟩
  | 79 => ⟨S100000x1, .i1⟩
  | 80 => ⟨S_, .i32⟩
  | 81 => ⟨S99990, .i32⟩
  | 82 => ⟨S99990, .i1⟩
  | 83 => ⟨S_, .i32⟩
  | 84 => ⟨S99990, .i32⟩
  | 85 => ⟨S99990, .i32⟩
  | 86 => ⟨S99990, .i32⟩
  | 87 => ⟨S99990x1, .i32⟩
  | 88 => ⟨S99990x128, .f32⟩
  | 89 => ⟨S1x128x128, .f32⟩
  | 90 => ⟨S128x128, .f32⟩
  | 91 => ⟨S99990x128, .f32⟩
  | 92 => ⟨S99990x1, .f32⟩
  | 93 => ⟨S99990x128, .f32⟩
  | 94 => ⟨S99990x128, .f32⟩
  | 95 => ⟨S1x128x128, .f32⟩
  | 96 => ⟨S128x128, .f32⟩
  | 97 => ⟨S99990x128, .f32⟩
  | 98 => ⟨S99990x1, .f32⟩
  | 99 => ⟨S99990x128, .f32⟩
  | 100 => ⟨S99990x128, .f32⟩
  | 101 => ⟨S99990x128, .f32⟩
  | 102 => ⟨S_, .f32⟩
  | 103 => ⟨S100000x128, .f32⟩
  | 104 => ⟨S99990x1, .i32⟩
  | 105 => ⟨S100000x128, .f32⟩
  | 106 => ⟨S1x128x128, .f32⟩
  | 107 => ⟨S128x128, .f32⟩
  | 108 => ⟨S100000x128, .f32⟩
  | 109 => ⟨S100000x128, .f32⟩
  | 110 => ⟨S1x1x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .i1⟩
  | 118 => ⟨S100000x128, .f32⟩
  | 119 => ⟨S_, .i32⟩
  | 120 => ⟨S99990, .i32⟩
  | 121 => ⟨S99990, .i1⟩
  | 122 => ⟨S_, .i32⟩
  | 123 => ⟨S99990, .i32⟩
  | 124 => ⟨S99990, .i32⟩
  | 125 => ⟨S99990, .i32⟩
  | 126 => ⟨S99990x1, .i32⟩
  | 127 => ⟨S99990x128, .f32⟩
  | _ => ⟨S100000, .i32⟩

abbrev hbmTy0_1 (i : Nat) : BufTy := match i % 128 with
  | 0 => ⟨S1x128x128, .f32⟩
  | 1 => ⟨S128x128, .f32⟩
  | 2 => ⟨S99990x128, .f32⟩
  | 3 => ⟨S99990x1, .f32⟩
  | 4 => ⟨S99990x128, .f32⟩
  | 5 => ⟨S99990x128, .f32⟩
  | 6 => ⟨S1x128x128, .f32⟩
  | 7 => ⟨S128x128, .f32⟩
  | 8 => ⟨S99990x128, .f32⟩
  | 9 => ⟨S99990x1, .f32⟩
  | 10 => ⟨S99990x128, .f32⟩
  | 11 => ⟨S99990x128, .f32⟩
  | 12 => ⟨S99990x128, .f32⟩
  | 13 => ⟨S_, .f32⟩
  | 14 => ⟨S100000x128, .f32⟩
  | 15 => ⟨S99990x1, .i32⟩
  | 16 => ⟨S100000x128, .f32⟩
  | 17 => ⟨S1x128x128, .f32⟩
  | 18 => ⟨S128x128, .f32⟩
  | 19 => ⟨S100000x128, .f32⟩
  | 20 => ⟨S100000x128, .f32⟩
  | 21 => ⟨S1x1x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x128, .i1⟩
  | 29 => ⟨S100000x128, .f32⟩
  | 30 => ⟨S_, .i32⟩
  | 31 => ⟨S99990, .i32⟩
  | 32 => ⟨S99990, .i1⟩
  | 33 => ⟨S_, .i32⟩
  | 34 => ⟨S99990, .i32⟩
  | 35 => ⟨S99990, .i32⟩
  | 36 => ⟨S99990, .i32⟩
  | 37 => ⟨S99990x1, .i32⟩
  | 38 => ⟨S99990x128, .f32⟩
  | 39 => ⟨S1x128x128, .f32⟩
  | 40 => ⟨S128x128, .f32⟩
  | 41 => ⟨S99990x128, .f32⟩
  | 42 => ⟨S99990x1, .f32⟩
  | 43 => ⟨S99990x128, .f32⟩
  | 44 => ⟨S99990x128, .f32⟩
  | 45 => ⟨S1x128x128, .f32⟩
  | 46 => ⟨S128x128, .f32⟩
  | 47 => ⟨S99990x128, .f32⟩
  | 48 => ⟨S99990x1, .f32⟩
  | 49 => ⟨S99990x128, .f32⟩
  | 50 => ⟨S99990x128, .f32⟩
  | 51 => ⟨S99990x128, .f32⟩
  | 52 => ⟨S_, .f32⟩
  | 53 => ⟨S100000x128, .f32⟩
  | 54 => ⟨S99990x1, .i32⟩
  | 55 => ⟨S100000x128, .f32⟩
  | 56 => ⟨S1x128x128, .f32⟩
  | 57 => ⟨S128x128, .f32⟩
  | 58 => ⟨S100000x128, .f32⟩
  | 59 => ⟨S100000x128, .f32⟩
  | 60 => ⟨S1x1x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .i1⟩
  | 68 => ⟨S100000x128, .f32⟩
  | 69 => ⟨S_, .i32⟩
  | 70 => ⟨S99990, .i32⟩
  | 71 => ⟨S99990, .i1⟩
  | 72 => ⟨S_, .i32⟩
  | 73 => ⟨S99990, .i32⟩
  | 74 => ⟨S99990, .i32⟩
  | 75 => ⟨S99990, .i32⟩
  | 76 => ⟨S99990x1, .i32⟩
  | 77 => ⟨S99990x128, .f32⟩
  | 78 => ⟨S1x128x128, .f32⟩
  | 79 => ⟨S128x128, .f32⟩
  | 80 => ⟨S99990x128, .f32⟩
  | 81 => ⟨S99990x1, .f32⟩
  | 82 => ⟨S99990x128, .f32⟩
  | 83 => ⟨S99990x128, .f32⟩
  | 84 => ⟨S1x128x128, .f32⟩
  | 85 => ⟨S128x128, .f32⟩
  | 86 => ⟨S99990x128, .f32⟩
  | 87 => ⟨S99990x1, .f32⟩
  | 88 => ⟨S99990x128, .f32⟩
  | 89 => ⟨S99990x128, .f32⟩
  | 90 => ⟨S99990x128, .f32⟩
  | 91 => ⟨S_, .f32⟩
  | 92 => ⟨S100000x128, .f32⟩
  | 93 => ⟨S99990x1, .i32⟩
  | 94 => ⟨S100000x128, .f32⟩
  | 95 => ⟨S1x128x128, .f32⟩
  | 96 => ⟨S128x128, .f32⟩
  | 97 => ⟨S100000x128, .f32⟩
  | 98 => ⟨S100000x128, .f32⟩
  | 99 => ⟨S1x1x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .i1⟩
  | 107 => ⟨S100000x128, .f32⟩
  | 108 => ⟨S100000x128x1, .f32⟩
  | 109 => ⟨S100000x128x1, .f32⟩
  | 110 => ⟨S100000x128x1, .f32⟩
  | 111 => ⟨S100000x128x1, .f32⟩
  | 112 => ⟨S100000x128x4, .f32⟩
  | 113 => ⟨S10x10000x128x4, .f32⟩
  | 114 => ⟨S10x10000x512, .f32⟩
  | 115 => ⟨S10x10000x512, .f32⟩
  | 116 => ⟨S_, .f32⟩
  | 117 => ⟨S10x10000, .f32⟩
  | 118 => ⟨S10x16, .f32⟩
  | 119 => ⟨S10x16, .i32⟩
  | 120 => ⟨S10, .i32⟩
  | 121 => ⟨S10x1, .i32⟩
  | 122 => ⟨S_, .i32⟩
  | 123 => ⟨S10x1, .i32⟩
  | 124 => ⟨S10x1, .i1⟩
  | 125 => ⟨S_, .i32⟩
  | 126 => ⟨S10x1, .i32⟩
  | 127 => ⟨S10x1, .i32⟩
  | _ => ⟨S100000, .i32⟩

abbrev hbmTy0_2 (i : Nat) : BufTy := match i % 128 with
  | 0 => ⟨S10x1, .i32⟩
  | 1 => ⟨S_, .i32⟩
  | 2 => ⟨S10x16, .i32⟩
  | 3 => ⟨S10x16, .i1⟩
  | 4 => ⟨S_, .i32⟩
  | 5 => ⟨S10x16, .i32⟩
  | 6 => ⟨S10x16, .i32⟩
  | 7 => ⟨S10x16, .i32⟩
  | 8 => ⟨S10x16, .i32⟩
  | 9 => ⟨S10x16x1, .i32⟩
  | 10 => ⟨S10x16x1, .i32⟩
  | 11 => ⟨S10x16x2, .i32⟩
  | 12 => ⟨S10x16x128x4, .f32⟩
  | 13 => ⟨S10x2048x4, .f32⟩
  | 14 => ⟨S10x8, .f32⟩
  | 15 => ⟨S10x8, .i32⟩
  | 16 => ⟨S_, .i32⟩
  | 17 => ⟨S10x1, .i32⟩
  | 18 => ⟨S10x1, .i1⟩
  | 19 => ⟨S_, .i32⟩
  | 20 => ⟨S10x1, .i32⟩
  | 21 => ⟨S10x1, .i32⟩
  | 22 => ⟨S10x1, .i32⟩
  | 23 => ⟨S_, .i32⟩
  | 24 => ⟨S10x8, .i32⟩
  | 25 => ⟨S10x8, .i1⟩
  | 26 => ⟨S_, .i32⟩
  | 27 => ⟨S10x8, .i32⟩
  | 28 => ⟨S10x8, .i32⟩
  | 29 => ⟨S10x8, .i32⟩
  | 30 => ⟨S10x8, .i32⟩
  | 31 => ⟨S10x8x1, .i32⟩
  | 32 => ⟨S10x8x1, .i32⟩
  | 33 => ⟨S10x8x2, .i32⟩
  | 34 => ⟨S10x8x128x4, .f32⟩
  | 35 => ⟨S10x1024x4, .f32⟩
  | 36 => ⟨S_, .f32⟩
  | 37 => ⟨S10x2048x1024, .f32⟩
  | 38 => ⟨S10x2048x1024, .f32⟩
  | 39 => ⟨S10x2048x1024, .f32⟩
  | 40 => ⟨S_, .f32⟩
  | 41 => ⟨S10x2048, .f32⟩
  | 42 => ⟨S_, .f32⟩
  | 43 => ⟨S10x2048, .f32⟩
  | 44 => ⟨S10x2048, .f32⟩
  | 45 => ⟨S10x2048x1, .f32⟩
  | 46 => ⟨S10x2048x1024, .f32⟩
  | 47 => ⟨S10x2048x1024, .f32⟩
  | 48 => ⟨S10x2048x1024, .f32⟩
  | 49 => ⟨S_, .f32⟩
  | 50 => ⟨S10x2048, .f32⟩
  | 51 => ⟨S10x2048x1, .f32⟩
  | 52 => ⟨S10x2048x1024, .f32⟩
  | 53 => ⟨S10x2048x1024, .f32⟩
  | 54 => ⟨S10x1024x4, .f32⟩
  | 55 => ⟨S10x2048x1024, .f32⟩
  | 56 => ⟨S10x2048x1024, .f32⟩
  | 57 => ⟨S_, .f32⟩
  | 58 => ⟨S10x2048, .f32⟩
  | 59 => ⟨S_, .f32⟩
  | 60 => ⟨S10x2048, .f32⟩
  | 61 => ⟨S10x2048, .f32⟩
  | 62 => ⟨S10x2048x1, .f32⟩
  | 63 => ⟨S10x2048x1024, .f32⟩
  | 64 => ⟨S10x2048x1024, .f32⟩
  | 65 => ⟨S10x2048x1024, .f32⟩
  | 66 => ⟨S_, .f32⟩
  | 67 => ⟨S10x2048, .f32⟩
  | 68 => ⟨S10x2048x1, .f32⟩
  | 69 => ⟨S10x2048x1024, .f32⟩
  | 70 => ⟨S10x2048x1024, .f32⟩
  | 71 => ⟨S10x1024x4, .f32⟩
  | 72 => ⟨S10x2048x1024, .f32⟩
  | 73 => ⟨S10x2048x1024, .f32⟩
  | 74 => ⟨S_, .f32⟩
  | 75 => ⟨S10x2048, .f32⟩
  | 76 => ⟨S_, .f32⟩
  | 77 => ⟨S10x2048, .f32⟩
  | 78 => ⟨S10x2048, .f32⟩
  | 79 => ⟨S10x2048x1, .f32⟩
  | 80 => ⟨S10x2048x1024, .f32⟩
  | 81 => ⟨S10x2048x1024, .f32⟩
  | 82 => ⟨S10x2048x1024, .f32⟩
  | 83 => ⟨S_, .f32⟩
  | 84 => ⟨S10x2048, .f32⟩
  | 85 => ⟨S10x2048x1, .f32⟩
  | 86 => ⟨S10x2048x1024, .f32⟩
  | 87 => ⟨S10x2048x1024, .f32⟩
  | 88 => ⟨S10x1024x4, .f32⟩
  | 89 => ⟨S10x1024x4, .f32⟩
  | 90 => ⟨S_, .f32⟩
  | 91 => ⟨S10x1024, .f32⟩
  | 92 => ⟨S10x1024x1, .f32⟩
  | 93 => ⟨S_, .f32⟩
  | 94 => ⟨S10x1024x1, .f32⟩
  | 95 => ⟨S10x1024x1, .f32⟩
  | 96 => ⟨S10x1024x1, .f32⟩
  | 97 => ⟨S_, .f32⟩
  | 98 => ⟨S10x1024x1, .f32⟩
  | 99 => ⟨S10x1024x1, .f32⟩
  | 100 => ⟨S10x1024x1, .f32⟩
  | 101 => ⟨S_, .f32⟩
  | 102 => ⟨S10x1024x1, .f32⟩
  | 103 => ⟨S10x1024x1, .f32⟩
  | 104 => ⟨S10x1024x1, .f32⟩
  | 105 => ⟨S10x1024x4, .f32⟩
  | 106 => ⟨S10x1024x4, .f32⟩
  | 107 => ⟨S1024x10x16x10, .f32⟩
  | 108 => ⟨S10x1024x10x16, .f32⟩
  | 109 => ⟨S_, .f32⟩
  | 110 => ⟨S10x1024x10, .f32⟩
  | 111 => ⟨S_, .f32⟩
  | 112 => ⟨S10x1024, .f32⟩
  | 113 => ⟨S_, .f32⟩
  | 114 => ⟨S10x1024, .f32⟩
  | 115 => ⟨S10x1024, .f32⟩
  | 116 => ⟨S10x1024x1, .f32⟩
  | 117 => ⟨S10x1024x10, .f32⟩
  | 118 => ⟨S10x1024x10, .f32⟩
  | 119 => ⟨S10x1024x10, .f32⟩
  | 120 => ⟨S_, .f32⟩
  | 121 => ⟨S10x1024, .f32⟩
  | 122 => ⟨S10x1024x1, .f32⟩
  | 123 => ⟨S10x1024x10, .f32⟩
  | 124 => ⟨S10x1024x10, .f32⟩
  | 125 => ⟨S10x10x16, .f32⟩
  | 126 => ⟨S10x10x16, .f32⟩
  | 127 => ⟨S_, .f32⟩
  | _ => ⟨S100000, .i32⟩

abbrev hbmTy0_3 (i : Nat) : BufTy := match i % 128 with
  | 0 => ⟨S10x10, .f32⟩
  | 1 => ⟨S10x10x1, .f32⟩
  | 2 => ⟨S_, .f32⟩
  | 3 => ⟨S10x10x1, .f32⟩
  | 4 => ⟨S10x10x1, .f32⟩
  | 5 => ⟨S10x10x1, .f32⟩
  | 6 => ⟨S_, .f32⟩
  | 7 => ⟨S10x10x1, .f32⟩
  | 8 => ⟨S10x10x1, .f32⟩
  | 9 => ⟨S10x10x1, .f32⟩
  | 10 => ⟨S_, .f32⟩
  | 11 => ⟨S10x10x1, .f32⟩
  | 12 => ⟨S10x10x1, .f32⟩
  | 13 => ⟨S10x10x1, .f32⟩
  | 14 => ⟨S10x10x16, .f32⟩
  | 15 => ⟨S10x10x16, .f32⟩
  | 16 => ⟨S10x10x1024, .f32⟩
  | 17 => ⟨S10x1024x10, .f32⟩
  | 18 => ⟨S10x1024x10, .f32⟩
  | 19 => ⟨S_, .f32⟩
  | 20 => ⟨S10x1024, .f32⟩
  | 21 => ⟨S_, .f32⟩
  | 22 => ⟨S10x1024, .f32⟩
  | 23 => ⟨S10x1024, .f32⟩
  | 24 => ⟨S10x1024x1, .f32⟩
  | 25 => ⟨S10x1024x10, .f32⟩
  | 26 => ⟨S10x1024x10, .f32⟩
  | 27 => ⟨S10x1024x10, .f32⟩
  | 28 => ⟨S_, .f32⟩
  | 29 => ⟨S10x1024, .f32⟩
  | 30 => ⟨S10x1024x1, .f32⟩
  | 31 => ⟨S10x1024x10, .f32⟩
  | 32 => ⟨S10x1024x10, .f32⟩
  | 33 => ⟨S10x10x16, .f32⟩
  | 34 => ⟨S10x10x16, .f32⟩
  | 35 => ⟨S_, .f32⟩
  | 36 => ⟨S10x10, .f32⟩
  | 37 => ⟨S10x10x1, .f32⟩
  | 38 => ⟨S_, .f32⟩
  | 39 => ⟨S10x10x1, .f32⟩
  | 40 => ⟨S10x10x1, .f32⟩
  | 41 => ⟨S10x10x1, .f32⟩
  | 42 => ⟨S_, .f32⟩
  | 43 => ⟨S10x10x1, .f32⟩
  | 44 => ⟨S10x10x1, .f32⟩
  | 45 => ⟨S10x10x1, .f32⟩
  | 46 => ⟨S_, .f32⟩
  | 47 => ⟨S10x10x1, .f32⟩
  | 48 => ⟨S10x10x1, .f32⟩
  | 49 => ⟨S10x10x1, .f32⟩
  | 50 => ⟨S10x10x16, .f32⟩
  | 51 => ⟨S10x10x16, .f32⟩
  | 52 => ⟨S10x10x1024, .f32⟩
  | 53 => ⟨S10x1024x10, .f32⟩
  | 54 => ⟨S10x1024x10, .f32⟩
  | 55 => ⟨S_, .f32⟩
  | 56 => ⟨S10x1024, .f32⟩
  | 57 => ⟨S_, .f32⟩
  | 58 => ⟨S10x1024, .f32⟩
  | 59 => ⟨S10x1024, .f32⟩
  | 60 => ⟨S10x1024x1, .f32⟩
  | 61 => ⟨S10x1024x10, .f32⟩
  | 62 => ⟨S10x1024x10, .f32⟩
  | 63 => ⟨S10x1024x10, .f32⟩
  | 64 => ⟨S_, .f32⟩
  | 65 => ⟨S10x1024, .f32⟩
  | 66 => ⟨S10x1024x1, .f32⟩
  | 67 => ⟨S10x1024x10, .f32⟩
  | 68 => ⟨S10x1024x10, .f32⟩
  | 69 => ⟨S10x10x16, .f32⟩
  | 70 => ⟨S10x10x16, .f32⟩
  | 71 => ⟨S_, .f32⟩
  | 72 => ⟨S10x10, .f32⟩
  | 73 => ⟨S10x10x1, .f32⟩
  | 74 => ⟨S_, .f32⟩
  | 75 => ⟨S10x10x1, .f32⟩
  | 76 => ⟨S10x10x1, .f32⟩
  | 77 => ⟨S10x10x1, .f32⟩
  | 78 => ⟨S_, .f32⟩
  | 79 => ⟨S10x10x1, .f32⟩
  | 80 => ⟨S10x10x1, .f32⟩
  | 81 => ⟨S10x10x1, .f32⟩
  | 82 => ⟨S_, .f32⟩
  | 83 => ⟨S10x10x1, .f32⟩
  | 84 => ⟨S10x10x1, .f32⟩
  | 85 => ⟨S10x10x1, .f32⟩
  | 86 => ⟨S10x10x16, .f32⟩
  | 87 => ⟨S10x10x16, .f32⟩
  | 88 => ⟨S10x10x16, .f32⟩
  | 89 => ⟨S_, .f32⟩
  | 90 => ⟨S10x10, .f32⟩
  | 91 => ⟨S_, .f32⟩
  | 92 => ⟨S10x10, .f32⟩
  | 93 => ⟨S10x10, .f32⟩
  | 94 => ⟨S10x10, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_call0_v0 : Ref sig .tc := ⟨.hbm, 65, rfl⟩
abbrev main_call0_v1 : Ref sig .tc := ⟨.hbm, 66, rfl⟩
abbrev main_v41 : Ref sig .tc := ⟨.hbm, 67, rfl⟩
abbrev main_cst_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_call1_v0 : Ref sig .tc := ⟨.hbm, 73, rfl⟩
abbrev main_call1_v1 : Ref sig .tc := ⟨.hbm, 74, rfl⟩
abbrev main_v45 : Ref sig .tc := ⟨.hbm, 75, rfl⟩
abbrev main_cst_13 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_14 : Ref sig .tc := ⟨.hbm, 80, rfl⟩
abbrev main_v49 : Ref sig .tc := ⟨.hbm, 81, rfl⟩
abbrev main_v50 : Ref sig .tc := ⟨.hbm, 82, rfl⟩
abbrev main_c_15 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call2_cst : Ref sig .tc := ⟨.hbm, 114, rfl⟩
abbrev main_call2_v0 : Ref sig .tc := ⟨.hbm, 115, rfl⟩
abbrev main_v80 : Ref sig .tc := ⟨.hbm, 116, rfl⟩
abbrev main_call3_v0 : Ref sig .tc := ⟨.hbm, 117, rfl⟩
abbrev main_v81 : Ref sig .tc := ⟨.hbm, 118, rfl⟩
abbrev main_c_17 : Ref sig .tc := ⟨.hbm, 119, rfl⟩
abbrev main_v82 : Ref sig .tc := ⟨.hbm, 120, rfl⟩
abbrev main_v83 : Ref sig .tc := ⟨.hbm, 121, rfl⟩
abbrev main_c_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_19 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call4_cst : Ref sig .tc := ⟨.hbm, 153, rfl⟩
abbrev main_call4_v0 : Ref sig .tc := ⟨.hbm, 154, rfl⟩
abbrev main_v113 : Ref sig .tc := ⟨.hbm, 155, rfl⟩
abbrev main_call5_v0 : Ref sig .tc := ⟨.hbm, 156, rfl⟩
abbrev main_v114 : Ref sig .tc := ⟨.hbm, 157, rfl⟩
abbrev main_c_20 : Ref sig .tc := ⟨.hbm, 158, rfl⟩
abbrev main_v115 : Ref sig .tc := ⟨.hbm, 159, rfl⟩
abbrev main_v116 : Ref sig .tc := ⟨.hbm, 160, rfl⟩
abbrev main_c_21 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_22 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_call6_cst : Ref sig .tc := ⟨.hbm, 192, rfl⟩
abbrev main_call6_v0 : Ref sig .tc := ⟨.hbm, 193, rfl⟩
abbrev main_v146 : Ref sig .tc := ⟨.hbm, 194, rfl⟩
abbrev main_call7_v0 : Ref sig .tc := ⟨.hbm, 195, rfl⟩
abbrev main_v147 : Ref sig .tc := ⟨.hbm, 196, rfl⟩
abbrev main_c_23 : Ref sig .tc := ⟨.hbm, 197, rfl⟩
abbrev main_v148 : Ref sig .tc := ⟨.hbm, 198, rfl⟩
abbrev main_v149 : Ref sig .tc := ⟨.hbm, 199, rfl⟩
abbrev main_c_24 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_25 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_call8_cst : Ref sig .tc := ⟨.hbm, 231, rfl⟩
abbrev main_call8_v0 : Ref sig .tc := ⟨.hbm, 232, rfl⟩
abbrev main_v179 : Ref sig .tc := ⟨.hbm, 233, rfl⟩
abbrev main_call9_v0 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_26 : Ref sig .tc := ⟨.hbm, 244, rfl⟩
abbrev main_v189 : Ref sig .tc := ⟨.hbm, 245, rfl⟩
abbrev main_values : Ref sig .tc := ⟨.hbm, 246, rfl⟩
abbrev main_indices : Ref sig .tc := ⟨.hbm, 247, rfl⟩
abbrev main_v190 : Ref sig .tc := ⟨.hbm, 248, rfl⟩
abbrev main_v191 : Ref sig .tc := ⟨.hbm, 249, rfl⟩
abbrev main_c_27 : Ref sig .tc := ⟨.hbm, 250, rfl⟩
abbrev main_v192 : Ref sig .tc := ⟨.hbm, 251, rfl⟩
abbrev main_v193 : Ref sig .tc := ⟨.hbm, 252, rfl⟩
abbrev main_c_28 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_c_29 : Ref sig .tc := ⟨.hbm, 257, rfl⟩
abbrev main_v197 : Ref sig .tc := ⟨.hbm, 258, rfl⟩
abbrev main_v198 : Ref sig .tc := ⟨.hbm, 259, rfl⟩
abbrev main_c_30 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_values_31 : Ref sig .tc := ⟨.hbm, 270, rfl⟩
abbrev main_indices_32 : Ref sig .tc := ⟨.hbm, 271, rfl⟩
abbrev main_c_33 : Ref sig .tc := ⟨.hbm, 272, rfl⟩
abbrev main_v208 : Ref sig .tc := ⟨.hbm, 273, rfl⟩
abbrev main_v209 : Ref sig .tc := ⟨.hbm, 274, rfl⟩
abbrev main_c_34 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_c_35 : Ref sig .tc := ⟨.hbm, 279, rfl⟩
abbrev main_v213 : Ref sig .tc := ⟨.hbm, 280, rfl⟩
abbrev main_v214 : Ref sig .tc := ⟨.hbm, 281, rfl⟩
abbrev main_c_36 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_cst_37 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_cst_38 : Ref sig .tc := ⟨.hbm, 296, rfl⟩
abbrev main_v227 : Ref sig .tc := ⟨.hbm, 297, rfl⟩
abbrev main_cst_39 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_cst_40 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_cst_41 : Ref sig .tc := ⟨.hbm, 313, rfl⟩
abbrev main_v241 : Ref sig .tc := ⟨.hbm, 314, rfl⟩
abbrev main_cst_42 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_cst_43 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_cst_44 : Ref sig .tc := ⟨.hbm, 330, rfl⟩
abbrev main_v255 : Ref sig .tc := ⟨.hbm, 331, rfl⟩
abbrev main_cst_45 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_cst_46 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_cst_47 : Ref sig .tc := ⟨.hbm, 346, rfl⟩
abbrev main_v268 : Ref sig .tc := ⟨.hbm, 347, rfl⟩
abbrev main_v269 : Ref sig .tc := ⟨.hbm, 348, rfl⟩
abbrev main_cst_48 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_cst_49 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_cst_50 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_cst_51 : Ref sig .tc := ⟨.hbm, 365, rfl⟩
abbrev main_v283 : Ref sig .tc := ⟨.hbm, 366, rfl⟩
abbrev main_cst_52 : Ref sig .tc := ⟨.hbm, 367, rfl⟩
abbrev main_v284 : Ref sig .tc := ⟨.hbm, 368, rfl⟩
abbrev main_cst_53 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_cst_54 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_cst_55 : Ref sig .tc := ⟨.hbm, 383, rfl⟩
abbrev main_v297 : Ref sig .tc := ⟨.hbm, 384, rfl⟩
abbrev main_v298 : Ref sig .tc := ⟨.hbm, 385, rfl⟩
abbrev main_cst_56 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_cst_57 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_cst_58 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_cst_59 : Ref sig .tc := ⟨.hbm, 403, rfl⟩
abbrev main_v313 : Ref sig .tc := ⟨.hbm, 404, rfl⟩
abbrev main_cst_60 : Ref sig .tc := ⟨.hbm, 405, rfl⟩
abbrev main_v314 : Ref sig .tc := ⟨.hbm, 406, rfl⟩
abbrev main_v315 : Ref sig .tc := ⟨.hbm, 407, rfl⟩
abbrev main_v316 : Ref sig .tc := ⟨.hbm, 408, rfl⟩
abbrev main_v317 : Ref sig .tc := ⟨.hbm, 409, rfl⟩
abbrev main_v318 : Ref sig .tc := ⟨.hbm, 410, rfl⟩
abbrev main_v319 : Ref sig .tc := ⟨.hbm, 411, rfl⟩
abbrev main_cst_61 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_cst_62 : Ref sig .tc := ⟨.hbm, 419, rfl⟩
abbrev main_v326 : Ref sig .tc := ⟨.hbm, 420, rfl⟩
abbrev main_v327 : Ref sig .tc := ⟨.hbm, 421, rfl⟩
abbrev main_cst_63 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_cst_64 : Ref sig .tc := ⟨.hbm, 426, rfl⟩
abbrev main_v331 : Ref sig .tc := ⟨.hbm, 427, rfl⟩
abbrev main_v332 : Ref sig .tc := ⟨.hbm, 428, rfl⟩
abbrev main_v333 : Ref sig .tc := ⟨.hbm, 429, rfl⟩
abbrev main_cst_65 : Ref sig .tc := ⟨.hbm, 430, rfl⟩
abbrev main_v334 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_cst_66 : Ref sig .tc := ⟨.hbm, 439, rfl⟩
abbrev main_v342 : Ref sig .tc := ⟨.hbm, 440, rfl⟩
abbrev main_cst_67 : Ref sig .tc := ⟨.hbm, 441, rfl⟩
abbrev main_v343 : Ref sig .tc := ⟨.hbm, 442, rfl⟩
abbrev main_v344 : Ref sig .tc := ⟨.hbm, 443, rfl⟩
abbrev main_v345 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_cst_68 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_v354 : Ref sig .tc := ⟨.hbm, 454, rfl⟩
abbrev main_cst_69 : Ref sig .tc := ⟨.hbm, 455, rfl⟩
abbrev main_v355 : Ref sig .tc := ⟨.hbm, 456, rfl⟩
abbrev main_v356 : Ref sig .tc := ⟨.hbm, 457, rfl⟩
abbrev main_cst_70 : Ref sig .tc := ⟨.hbm, 458, rfl⟩
abbrev main_v357 : Ref sig .tc := ⟨.hbm, 459, rfl⟩
abbrev main_v358 : Ref sig .tc := ⟨.hbm, 460, rfl⟩
abbrev main_v359 : Ref sig .tc := ⟨.hbm, 461, rfl⟩
abbrev main_cst_71 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_cst_72 : Ref sig .tc := ⟨.hbm, 466, rfl⟩
abbrev main_v363 : Ref sig .tc := ⟨.hbm, 467, rfl⟩
abbrev main_v364 : Ref sig .tc := ⟨.hbm, 468, rfl⟩
abbrev main_v365 : Ref sig .tc := ⟨.hbm, 469, rfl⟩
abbrev main_v366 : Ref sig .tc := ⟨.hbm, 470, rfl⟩
abbrev main_v367 : Ref sig .tc := ⟨.hbm, 471, rfl⟩
abbrev main_v368 : Ref sig .tc := ⟨.hbm, 472, rfl⟩
abbrev main_cst_73 : Ref sig .tc := ⟨.hbm, 473, rfl⟩
abbrev main_v369 : Ref sig .tc := ⟨.hbm, 474, rfl⟩
abbrev main_cst_74 : Ref sig .tc := ⟨.hbm, 475, rfl⟩
abbrev main_v370 : Ref sig .tc := ⟨.hbm, 476, rfl⟩
abbrev main_v371 : Ref sig .tc := ⟨.hbm, 477, rfl⟩
abbrev main_v372 : Ref sig .tc := ⟨.hbm, 478, rfl⟩

abbrev nD : Nat := 1
abbrev τ : Topo := Topo.v7x

variable {F : FTy → Type} [FloatOps F]
-- ==== Proof.KernelRun.lean ====
/- The run of the kernel: its result array ends at the last boundary's contents, its arguments as launched. -/
module

public import proofs.«01_k».proof.Proof.Gen.KernelIdeal.Frame

@[expose] public section
set_option maxRecDepth 16384
noncomputable section
namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result array at the contents of the last boundary and the arguments unchanged. -/
theorem run : θ_run defs (onTc (τ := τ) (main (F := F))) ⟨m, fun _ => 0, ρ⟩ (fun r => ∀ c : Dev nD,
    r.2.mem ((c.tc : Thread nD τ).loc main_v127) = W12 m ρ c (Proc.devRef .tc main_v127)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c => ⟨h c _ (mem_uc main_v127 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c)⟩)

end Cert.KernelRun
-- ==== Proof.RouteSpec.lean ====
/- The two routings of one graph, as functions of extended reals: the attention that turns the sixteen chosen nodes' features
   into 1024 capsules, and the class routing that turns those into ten logits. Both programs are read against these. -/
module

public import Idealize.ShloMosaic.Lib.Pointwise

@[expose] public section
noncomputable section
namespace Cert.Route
open Idealize.ShloMosaic

/-- The greatest of a row's entries, from minus infinity. -/
def top {n : ℕ} (f : Fin n → EReal) : EReal :=
  Finset.univ.fold max (Ideal.ofBits FTy.f32 0xFF800000#32) f

/-- The softmax of a row: each exponential over their sum, the row's greatest entry taken off first. -/
def soft {n : ℕ} (f : Fin n → EReal) (j : Fin n) : EReal :=
  Ideal.div (Ideal.exp (f j - top f)) (∑ x, Ideal.exp (f x - top f))

/-- The factor by which a capsule of squared length `sq` is squashed. -/
def scale (sq : EReal) : EReal :=
  Ideal.div (Ideal.div sq (Ideal.ofBits FTy.f32 0x3F800000#32 + sq))
    (Ideal.sqrt (sq + Ideal.ofBits FTy.f32 0x2EDBE6FF#32) + Ideal.ofBits FTy.f32 0x322BCC77#32)

/-- Agreement of the lower capsule `i` with the upper capsule `j`. -/
def agree (u : Fin 2048 → Fin 4 → EReal) (v : Fin 1024 → Fin 4 → EReal) (i : Fin 2048) (j : Fin 1024) : EReal :=
  ∑ m, u i m * v j m

/-- The upper capsule as the lower capsules' weighted sum. -/
def vote (u : Fin 2048 → Fin 4 → EReal) (b : Fin 2048 → Fin 1024 → EReal) (j : Fin 1024) (m : Fin 4) : EReal :=
  ∑ i, b i j * u i m

/-- One round's agreements added to those so far. -/
def more (u : Fin 2048 → Fin 4 → EReal) (a : Fin 2048 → Fin 1024 → EReal) (v : Fin 1024 → Fin 4 → EReal)
    (i : Fin 2048) (j : Fin 1024) : EReal := a i j + agree u v i j

/-- The agreements after round one, two and three, from the first upper capsules `v`. -/
def agree1 (u : Fin 2048 → Fin 4 → EReal) (v : Fin 1024 → Fin 4 → EReal) : Fin 2048 → Fin 1024 → EReal :=
  more u (fun _ _ => 0) v
def agree2 (u : Fin 2048 → Fin 4 → EReal) (v : Fin 1024 → Fin 4 → EReal) : Fin 2048 → Fin 1024 → EReal :=
  more u (agree1 u v) (vote u fun i => soft (agree1 u v i))
def agree3 (u : Fin 2048 → Fin 4 → EReal) (v : Fin 1024 → Fin 4 → EReal) : Fin 2048 → Fin 1024 → EReal :=
  more u (agree2 u v) (vote u fun i => soft (agree2 u v i))

/-- The upper capsules after three rounds, squashed. -/
def caps (u : Fin 2048 → Fin 4 → EReal) (v : Fin 1024 → Fin 4 → EReal) (j : Fin 1024) (m : Fin 4) : EReal :=
  let o := vote u fun i => soft (agree3 u v i)
  o j m * scale (∑ k, o j k * o j k)

/-- A capsule's prediction for entry `c` of class `s`. -/
def predict (w : Fin 1024 → Fin 16 → Fin 10 → Fin 4 → EReal) (o : Fin 1024 → Fin 4 → EReal)
    (n : Fin 1024) (s : Fin 10) (c : Fin 16) : EReal := ∑ m, w n c s m * o n m

/-- A class capsule before squashing: the predictions weighted by the softmax over the classes. -/
def gather (p : Fin 1024 → Fin 10 → Fin 16 → EReal) (d : Fin 1024 → Fin 10 → EReal) (s : Fin 10) (c : Fin 16) : EReal :=
  ∑ n, soft (d n) s * p n s c

/-- A class capsule squashed. -/
def squash (x : Fin 10 → Fin 16 → EReal) (s : Fin 10) (c : Fin 16) : EReal :=
  x s c * scale (∑ k, x s k * x s k)

/-- One round's agreement of predictions with class capsules, added to those so far. -/
def raise (p : Fin 1024 → Fin 10 → Fin 16 → EReal) (d : Fin 1024 → Fin 10 → EReal) (n : Fin 1024) (s : Fin 10) : EReal :=
  d n s + ∑ c, p n s c * squash (gather p d) s c

/-- The squashed class capsules of the third round. -/
def classes (p : Fin 1024 → Fin 10 → Fin 16 → EReal) : Fin 10 → Fin 16 → EReal :=
  squash (gather p (raise p (raise p fun _ _ => 0)))

/-- A class's logit: its capsule's length. -/
def logit (z : Fin 10 → Fin 16 → EReal) (s : Fin 10) : EReal :=
  Ideal.sqrt (∑ c, z s c * z s c + Ideal.ofBits FTy.f32 0x2EDBE6FF#32)

/-- One graph's ten logits from its chosen nodes' features. -/
def route (u : Fin 2048 → Fin 4 → EReal) (v : Fin 1024 → Fin 4 → EReal) (w : Fin 1024 → Fin 16 → Fin 10 → Fin 4 → EReal)
    (s : Fin 10) : EReal := logit (classes (predict w (caps u v))) s

/-- Entry `c` of class `s` in a row of 160. -/
def at160 (s : Fin 10) (c : Fin 16) : Fin 160 := ⟨s.val * 16 + c.val, by omega⟩

/-- A sum over the row against the indicator of class `s` is the sum over that class's entries. -/
theorem sum160 (f : Fin 160 → EReal) (s : Fin 10) :
    (∑ q : Fin 160, f q * (if q.val / 16 = s.val then 1 else 0)) = ∑ c, f (at160 s c) := by
  simp only [mul_ite, mul_one, mul_zero]
  rw [← Finset.sum_filter]
  refine (Finset.sum_bij' (fun c _ => at160 s c) (fun q _ => ⟨q.val % 16, by omega⟩) ?_ ?_ ?_ ?_ ?_).symm
  · intro c _; simp [at160]; omega
  · intro q _; exact Finset.mem_univ _
  · intro c _; apply Fin.ext; simp [at160];
  · intro q hq; apply Fin.ext; simp at hq; simp [at160]; omega
  · intro c _; rfl

/-- A sum over the classes against the indicator of the class of entry `q` is that class's term. -/
theorem sum10 (g : Fin 10 → EReal) (q : Fin 160) :
    (∑ s : Fin 10, g s * (if q.val / 16 = s.val then 1 else 0)) = g ⟨q.val / 16, by omega⟩ := by
  simp only [mul_ite, mul_one, mul_zero]
  rw [Finset.sum_eq_single (⟨q.val / 16, by omega⟩ : Fin 10)]
  · simp
  · intro b _ hb; rw [if_neg]; intro h; exact hb (Fin.ext h.symm)
  · intro h; exact absurd (Finset.mem_univ _) h

end Cert.Route
end
-- ==== Proof.TreeSpec.lean ====
/- The tree convolution in the extended reals: a layer as the reference states it on one graph, a layer as the
   kernel computes it on the rows it keeps, and that the two agree on the rows of the nodes with children. -/
module

public import proofs.«01_k».proof.Proof.RouteSpec

@[expose] public section
noncomputable section
namespace Cert.Tree
open Finset

/-- The coefficient of a child at place `j` of a parent with `d + 1` children on the left side. -/
def cfL (d j : ℝ) : ℝ := (d - j) / d

/-- The coefficient of a child at place `j` of a parent with `d + 1` children on the right side. -/
def cfR (d j : ℝ) : ℝ := j / d

/-- One less than the number of children of node `n`: the last parent has 15 children, the others 16. -/
def dn (n : ℕ) : ℝ := if n < 624 then 15 else 14

/-- The weighted sum of the children of node `n`. -/
def kids (cf : ℝ → ℝ → ℝ) (H : Fin 10000 → Fin 128 → EReal) (n : ℕ) (k : Fin 128) : EReal :=
  ∑ j : Fin 16, if h : 16 * n + 1 + j.val < 10000 then H ⟨16 * n + 1 + j.val, h⟩ k * (cf (dn n) j.val : EReal) else 0

/-- The new state of a node with children. -/
def mix (l r t : Fin 128 → EReal) (wl wr wt : Fin 128 → Fin 128 → EReal) (b : Fin 128 → EReal) (c : Fin 128) : EReal :=
  max (∑ k, l k * wl k c + ∑ k, r k * wr k c + ∑ k, t k * wt k c + b c) 0

/-- A layer of the tree convolution on one graph. -/
def step (H : Fin 10000 → Fin 128 → EReal) (wl wr wt : Fin 128 → Fin 128 → EReal) (b : Fin 128 → EReal) (n : Fin 10000) (c : Fin 128) : EReal :=
  if n.val < 625 then mix (kids cfL H n.val) (kids cfR H n.val) (H n) wl wr wt b c else H n c

/-- A table of coefficients of children, zero where a parent has no such child. -/
def tabK (cf : ℝ → ℝ → ℝ) (p : Fin 632) (j : Fin 16) : ℝ :=
  if p.val < 624 then cf 15 j.val else if p.val = 624 ∧ j.val < 15 then cf 14 j.val else 0

/-- The matrix that takes the states of the kept rows to the weighted sums over children among them. -/
def tabM (cf : ℝ → ℝ → ℝ) (p : Fin 48) (q : Fin 632) : ℝ :=
  if p.val < 39 ∧ 16 * p.val + 1 ≤ q.val ∧ q.val < 16 * p.val + 17 then cf 15 ((q.val : ℝ) - (16 * p.val + 1)) else 0

/-- The initial states of the children, zero beyond the last node. -/
def childs (h0 : Fin 10000 → Fin 128 → EReal) (p : Fin 632) (j : Fin 16) (k : Fin 128) : EReal :=
  if h : 16 * p.val + 1 + j.val < 10000 then h0 ⟨16 * p.val + 1 + j.val, h⟩ k else 0

/-- The kernel's sum over children: of the initial states, and what the kept rows have gained since. -/
def side (base : Fin 632 → Fin 128 → EReal) (m : Fin 48 → Fin 632 → EReal) (h0 h : Fin 632 → Fin 128 → EReal) (p : Fin 632) (k : Fin 128) : EReal :=
  base p k + if hp : p.val < 48 then ∑ q, m ⟨p.val, hp⟩ q * (h q k - h0 q k) else 0

/-- A layer as the kernel computes it. -/
def stepK (bl br : Fin 632 → Fin 128 → EReal) (ml mr : Fin 48 → Fin 632 → EReal) (h0 h : Fin 632 → Fin 128 → EReal)
    (wl wr wt : Fin 128 → Fin 128 → EReal) (b : Fin 128 → EReal) (p : Fin 632) (c : Fin 128) : EReal :=
  mix (side bl ml h0 h p) (side br mr h0 h p) (h p) wl wr wt b c

/-- The kept rows of a graph's states. -/
def keep (H : Fin 10000 → Fin 128 → EReal) (p : Fin 632) : Fin 128 → EReal := H ⟨p.val, by omega⟩

/-- The kernel's base sum over children. -/
def base (cf : ℝ → ℝ → ℝ) (h0 : Fin 10000 → Fin 128 → EReal) (p : Fin 632) (k : Fin 128) : EReal :=
  ∑ j, childs h0 p j k * (tabK cf p j : EReal)

/-- The rows of nodes with children agree, and the leaves are as at the start. -/
def Agree (h0 H : Fin 10000 → Fin 128 → EReal) (h : Fin 632 → Fin 128 → EReal) : Prop :=
  (∀ p : Fin 632, p.val < 625 → h p = keep H p) ∧ ∀ n : Fin 10000, 625 ≤ n.val → H n = h0 n

/-- The initial states are real numbers. -/
def Real0 (h0 : Fin 10000 → Fin 128 → EReal) : Prop := ∀ n k, ∃ r : ℝ, h0 n k = (r : EReal)

/-- At the start the rows agree. -/
theorem agree_start (h0 : Fin 10000 → Fin 128 → EReal) : Agree h0 h0 (keep h0) := ⟨fun _ _ => rfl, fun _ _ => rfl⟩

/-- A gain weighted and added to the weighted start is the weighted whole, when the start is real. -/
theorem gain (x : EReal) (r c : ℝ) : (r : EReal) * c + c * (x - r) = x * c := by
  induction x with
  | coe x => rw [← EReal.coe_sub, ← EReal.coe_mul, ← EReal.coe_mul, ← EReal.coe_add, ← EReal.coe_mul]; congr 1; ring
  | top =>
    rw [EReal.top_sub_coe, ← EReal.coe_mul, mul_comm (⊤ : EReal)]
    rcases lt_trichotomy c 0 with h | h | h
    · rw [EReal.coe_mul_top_of_neg h, EReal.add_bot]
    · subst h; simp
    · rw [EReal.coe_mul_top_of_pos h, EReal.coe_add_top]
  | bot =>
    rw [EReal.bot_sub, ← EReal.coe_mul, mul_comm (⊥ : EReal)]
    rcases lt_trichotomy c 0 with h | h | h
    · rw [EReal.coe_mul_bot_of_neg h, EReal.coe_add_top]
    · subst h; simp
    · rw [EReal.coe_mul_bot_of_pos h, EReal.add_bot]

/-- The kernel's sum over children is the reference's. -/
theorem side_eq (cf : ℝ → ℝ → ℝ) {h0 H : Fin 10000 → Fin 128 → EReal} {h : Fin 632 → Fin 128 → EReal} (F : Real0 h0) (A : Agree h0 H h)
    (p : Fin 632) (hp : p.val < 625) (k : Fin 128) :
    side (base cf h0) (fun p q => (tabM cf p q : EReal)) (keep h0) h p k = kids cf H p.val k := by
  unfold side base kids
  by_cases h39 : p.val < 39
  · rw [dif_pos (by omega)]
    have e : ∑ q, (tabM cf ⟨p.val, by omega⟩ q : EReal) * (h q k - keep h0 q k)
        = ∑ j : Fin 16, (cf 15 j.val : EReal) * (H ⟨16 * p.val + 1 + j.val, by omega⟩ k - h0 ⟨16 * p.val + 1 + j.val, by omega⟩ k) := by
      refine (Fintype.sum_of_injective (fun j : Fin 16 => (⟨16 * p.val + 1 + j.val, by omega⟩ : Fin 632)) ?_ _ _ ?_ ?_).symm
      · intro a b hab
        have := congrArg Fin.val hab
        exact Fin.ext (by simpa using this)
      · intro q hq
        unfold tabM
        rw [if_neg, EReal.coe_zero, zero_mul]
        rintro ⟨_, h1, h2⟩
        dsimp only at h1 h2
        exact hq ⟨⟨q.val - (16 * p.val + 1), by omega⟩, Fin.ext (by simp only; omega)⟩
      · intro j
        have hj := j.isLt
        have e15 : (((16 * p.val + 1 + j.val : ℕ) : ℝ) - (16 * p.val + 1)) = j.val := by push_cast; ring
        unfold tabM
        rw [if_pos ⟨h39, by simp only; omega, by simp only; omega⟩, A.1 ⟨16 * p.val + 1 + j.val, by omega⟩ (by simp only; omega)]
        simp only [keep]
        rw [e15]
    rw [e, ← sum_add_distrib]
    refine sum_congr rfl fun j _ => ?_
    have hj := j.isLt
    have hlt : 16 * p.val + 1 + j.val < 10000 := by omega
    simp only [childs, tabK, dn, dif_pos hlt, if_pos (show p.val < 624 by omega)]
    obtain ⟨r, hr⟩ := F ⟨16 * p.val + 1 + j.val, hlt⟩ k
    rw [hr]
    exact gain _ r _
  · have hz : (if hp : p.val < 48 then ∑ q, (tabM cf ⟨p.val, hp⟩ q : EReal) * (h q k - keep h0 q k) else 0) = 0 := by
      split
      · refine sum_eq_zero fun q _ => ?_
        unfold tabM
        rw [if_neg (fun hh => h39 hh.1), EReal.coe_zero, zero_mul]
      · rfl
    rw [hz, add_zero]
    refine sum_congr rfl fun j _ => ?_
    have hj := j.isLt
    unfold childs
    split
    · rename_i hlt
      rw [A.2 ⟨16 * p.val + 1 + j.val, hlt⟩ (by simp only; omega)]
      congr 2
      unfold tabK dn
      by_cases h624 : p.val < 624
      · rw [if_pos h624, if_pos h624]
      · rw [if_neg h624, if_neg h624, if_pos ⟨by omega, by omega⟩]
    · rw [zero_mul]

/-- A layer keeps the agreement. -/
theorem agree_step {h0 H : Fin 10000 → Fin 128 → EReal} {h : Fin 632 → Fin 128 → EReal} (F : Real0 h0) (A : Agree h0 H h)
    (wl wr wt : Fin 128 → Fin 128 → EReal) (b : Fin 128 → EReal) :
    Agree h0 (step H wl wr wt b)
      (stepK (base cfL h0) (base cfR h0) (fun p q => (tabM cfL p q : EReal)) (fun p q => (tabM cfR p q : EReal)) (keep h0) h wl wr wt b) := by
  refine ⟨fun p hp => ?_, fun n hn => ?_⟩
  · funext c
    have e1 := funext (side_eq cfL F A p hp)
    have e2 := funext (side_eq cfR F A p hp)
    have e3 := A.1 p hp
    simp only [stepK, keep, step, if_pos hp] at *
    rw [e1, e2, e3]
  · funext c
    simp only [step, if_neg (show ¬ n.val < 625 by omega)]
    rw [A.2 n hn]

/-- The states after each of the four layers. -/
def layers (h0 : Fin 10000 → Fin 128 → EReal) (wl wr wt : Fin 4 → Fin 128 → Fin 128 → EReal) (b : Fin 4 → Fin 128 → EReal) :
    Fin 4 → Fin 10000 → Fin 128 → EReal :=
  have h1 := step h0 (wl 0) (wr 0) (wt 0) (b 0)
  have h2 := step h1 (wl 1) (wr 1) (wt 1) (b 1)
  have h3 := step h2 (wl 2) (wr 2) (wt 2) (b 2)
  have h4 := step h3 (wl 3) (wr 3) (wt 3) (b 3)
  ![h1, h2, h3, h4]

/-- The kernel's rows after each of the four layers, from the sums, matrices and rows it starts with. -/
def rows (bl br : Fin 632 → Fin 128 → EReal) (ml mr : Fin 48 → Fin 632 → EReal) (h0 : Fin 632 → Fin 128 → EReal)
    (wl wr wt : Fin 4 → Fin 128 → Fin 128 → EReal) (b : Fin 4 → Fin 128 → EReal) : Fin 4 → Fin 632 → Fin 128 → EReal :=
  have h1 := stepK bl br ml mr h0 h0 (wl 0) (wr 0) (wt 0) (b 0)
  have h2 := stepK bl br ml mr h0 h1 (wl 1) (wr 1) (wt 1) (b 1)
  have h3 := stepK bl br ml mr h0 h2 (wl 2) (wr 2) (wt 2) (b 2)
  have h4 := stepK bl br ml mr h0 h3 (wl 3) (wr 3) (wt 3) (b 3)
  ![h1, h2, h3, h4]

/-- The kernel's rows of nodes with children are the states of those nodes, after every layer. -/
theorem rows_eq (h0 : Fin 10000 → Fin 128 → EReal) (wl wr wt : Fin 4 → Fin 128 → Fin 128 → EReal) (b : Fin 4 → Fin 128 → EReal)
    (F : Real0 h0) (l : Fin 4) : Agree h0 (layers h0 wl wr wt b l)
      (rows (base cfL h0) (base cfR h0) (fun p q => (tabM cfL p q : EReal)) (fun p q => (tabM cfR p q : EReal)) (keep h0) wl wr wt b l) := by
  have a1 := agree_step F (agree_start h0) (wl 0) (wr 0) (wt 0) (b 0)
  have a2 := agree_step F a1 (wl 1) (wr 1) (wt 1) (b 1)
  have a3 := agree_step F a2 (wl 2) (wr 2) (wt 2) (b 2)
  have a4 := agree_step F a3 (wl 3) (wr 3) (wt 3) (b 3)
  fin_cases l
  · exact a1
  · exact a2
  · exact a3
  · exact a4

/-- States that are real numbers or the upper infinity. -/
def Up (H : Fin 10000 → Fin 128 → EReal) : Prop := ∀ n k, H n k ≠ ⊥

/-- The initial states are such. -/
theorem up_start {h0 : Fin 10000 → Fin 128 → EReal} (F : Real0 h0) : Up h0 := fun n k => by
  obtain ⟨r, hr⟩ := F n k
  rw [hr]; exact EReal.coe_ne_bot r

/-- A layer keeps such states. -/
theorem up_step {H : Fin 10000 → Fin 128 → EReal} (U : Up H) (wl wr wt : Fin 128 → Fin 128 → EReal) (b : Fin 128 → EReal) :
    Up (step H wl wr wt b) := fun n k => by
  unfold step
  split
  · exact ne_of_gt (lt_of_lt_of_le EReal.bot_lt_zero (le_max_right _ _))
  · exact U n k

/-- The states after every layer are such. -/
theorem up_layers {h0 : Fin 10000 → Fin 128 → EReal} (F : Real0 h0) (wl wr wt : Fin 4 → Fin 128 → Fin 128 → EReal) (b : Fin 4 → Fin 128 → EReal)
    (l : Fin 4) : Up (layers h0 wl wr wt b l) := by
  have a1 := up_step (up_start F) (wl 0) (wr 0) (wt 0) (b 0)
  have a2 := up_step a1 (wl 1) (wr 1) (wt 1) (b 1)
  have a3 := up_step a2 (wl 2) (wr 2) (wt 2) (b 2)
  have a4 := up_step a3 (wl 3) (wr 3) (wt 3) (b 3)
  fin_cases l
  · exact a1
  · exact a2
  · exact a3
  · exact a4

/-- The sum of the squares of a node's states over the layers. -/
def norm2 (f : Fin 4 → Fin 128 → EReal) : EReal := ∑ l, ∑ c, f l c * f l c

/-- A real sum read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A real maximum read in the extended reals. -/
theorem coe_max (a b : ℝ) : ((max a b : ℝ) : EReal) = max (a : EReal) (b : EReal) :=
  EReal.coe_strictMono.monotone.map_max

end Cert.Tree
-- ==== Proof.TreeScatter.lean ====
/- The reference's sums over edges: its two accumulating scatters and its gathers, read at an index when the edges' words hold naturals. -/
module

public import proofs.«01_k».proof.Proof.Gen.ReferenceIdeal.Read
public import proofs.«01_k».proof.Proof.TreeSpec
public import Idealize.ShloMosaic.Lib.Routing.OpsPair
public import Idealize.ShloMosaic.Lib.Routing.OpsSet

@[expose] public section
set_option maxRecDepth 16384
noncomputable section
namespace Cert.TreeR
open Idealize.ShloMosaic
open Cert.ReferenceIdeal Cert.ReferenceIdeal.Read Cert.ReferenceIdeal.Gen Cert.Tree

/-- Where the row of an edge starts. -/
theorem row_start0 (idx : IVec S99990x1 32) (e : Fin 99990) (c : Fin 128) :
    scatter_S100000x128_S99990x1_S99990x128_1_0_0_1.start (ix2 e c) idx 0 = (idx (ix2 e 0)).toInt := by
  refine (dif_pos (by decide)).trans (congrArg (fun i => (idx i).toInt) ?_)
  funext b
  fin_cases b <;> rfl

/-- It starts at the first column. -/
theorem row_start1 (idx : IVec S99990x1 32) (e : Fin 99990) (c : Fin 128) :
    scatter_S100000x128_S99990x1_S99990x128_1_0_0_1.start (ix2 e c) idx 1 = 0 := rfl

/-- The rows' axis is no window axis. -/
theorem row_window0 (e : Fin 99990) (c : Fin 128) :
    scatter_S100000x128_S99990x1_S99990x128_1_0_0_1.window (ix2 e c) 0 = 0 := rfl

/-- The columns' axis is the window axis. -/
theorem row_window1 (e : Fin 99990) (c : Fin 128) :
    scatter_S100000x128_S99990x1_S99990x128_1_0_0_1.window (ix2 e c) 1 = c.val := rfl

/-- Where an edge's one word lands. -/
theorem one_start (idx : IVec S99990x1 32) (e : Fin 99990) :
    scatter_S100000_S99990x1_S99990_n_0_0_1.start (ix1 e) idx 0 = (idx (ix2 e 0)).toInt := by
  refine (dif_pos (by decide)).trans (congrArg (fun i => (idx i).toInt) ?_)
  funext b
  fin_cases b <;> rfl

/-- No window. -/
theorem one_window (e : Fin 99990) : scatter_S100000_S99990x1_S99990_n_0_0_1.window (ix1 e) 0 = 0 := rfl

/-- A word that holds a small natural, read signed. -/
theorem toInt_small (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- A vector's accumulating scatter: what is there, and the updates of the edges that lead there. -/
theorem scatter_one (x : FVec Ideal S100000 .f32) (idx : IVec S99990x1 32) (upd : FVec Ideal S99990 .f32) (t : ℕ → ℕ)
    (ht : ∀ e : Fin 99990, idx (ix2 e 0) = BitVec.ofNat 32 (t e.val)) (hb : ∀ e : Fin 99990, t e.val < 2 ^ 31) (n : Fin 100000) :
    Host.scatterAdd scatter_S100000_S99990x1_S99990_n_0_0_1 x idx upd (ix1 n)
      = x (ix1 n) + ∑ e : Fin 99990, if t e.val = n.val then upd (ix1 e) else 0 := by
  refine congrArg (x (ix1 n) + ·) ?_
  rw [Finset.sum_filter]
  refine Fintype.sum_equiv ⟨fun i => i 0, fun e => ix1 e, fun i => (eq_ix1 i).symm, fun _ => rfl⟩ _ _ fun i => ?_
  obtain ⟨e, rfl⟩ : ∃ e : Fin 99990, i = ix1 e := ⟨i 0, eq_ix1 i⟩
  refine if_congr ?_ rfl rfl
  rw [Routing.resultIdx?_eq_some]
  show _ ↔ t e.val = n.val
  constructor
  · intro h
    have h0 := h 0
    rw [one_start, one_window, ht, toInt_small _ (hb e)] at h0
    have : ((ix1 n : S100000.Idx) 0).val = n.val := rfl
    omega
  · intro h a
    obtain rfl : a = 0 := Subsingleton.elim _ _
    rw [one_start, one_window, ht, toInt_small _ (hb e), h]
    rfl

/-- A matrix's accumulating scatter of rows. -/
theorem scatter_rows (x : FVec Ideal S100000x128 .f32) (idx : IVec S99990x1 32) (upd : FVec Ideal S99990x128 .f32) (t : ℕ → ℕ)
    (ht : ∀ e : Fin 99990, idx (ix2 e 0) = BitVec.ofNat 32 (t e.val)) (hb : ∀ e : Fin 99990, t e.val < 2 ^ 31) (n : Fin 100000) (c : Fin 128) :
    Host.scatterAdd scatter_S100000x128_S99990x1_S99990x128_1_0_0_1 x idx upd (ix2 n c)
      = x (ix2 n c) + ∑ e : Fin 99990, if t e.val = n.val then upd (ix2 e c) else 0 := by
  refine congrArg (x (ix2 n c) + ·) ?_
  have key : ∀ (e : Fin 99990) (d : Fin 128), scatter_S100000x128_S99990x1_S99990x128_1_0_0_1.resultIdx? (ix2 e d) idx = some (ix2 n c) ↔ t e.val = n.val ∧ d = c := fun e d => by
    rw [Routing.resultIdx?_eq_some]
    constructor
    · intro h
      have h0 := h 0
      have h1 := h 1
      rw [row_start0, row_window0, ht, toInt_small _ (hb e)] at h0
      rw [row_start1, row_window1] at h1
      have e0 : ((ix2 n c : S100000x128.Idx) 0).val = n.val := rfl
      have e1 : ((ix2 n c : S100000x128.Idx) 1).val = c.val := rfl
      exact ⟨by omega, Fin.ext (by omega)⟩
    · rintro ⟨h, rfl⟩ a
      match a with
      | ⟨0, _⟩ =>
        show scatter_S100000x128_S99990x1_S99990x128_1_0_0_1.start (ix2 e d) idx 0 + _ = (n.val : ℤ)
        rw [row_start0, ht, toInt_small _ (hb e), h]
        show (n.val : ℤ) + 0 = n.val
        omega
      | ⟨1, _⟩ =>
        show scatter_S100000x128_S99990x1_S99990x128_1_0_0_1.start (ix2 e d) idx 1 + _ = (d.val : ℤ)
        rw [row_start1]
        show (0 : ℤ) + d.val = d.val
        omega
  rw [Finset.sum_filter, sum_idx2]
  refine Finset.sum_congr rfl fun e _ => ?_
  simp only [key]
  by_cases h : t e.val = n.val
  · simp [h]
  · simp [h]

end Cert.TreeR
-- ==== Proof.TreeEdges.lean ====
/- The edges of the trees as naturals: whom each edge leads from and to, and sums over the edges that lead to one node. -/
module

public import proofs.«01_k».proof.Proof.TreeSpec

@[expose] public section
noncomputable section
namespace Cert.Tree
open Finset

/-- The child at the foot of edge `e`. -/
def srcN (e : ℕ) : ℕ := e % 9999 + 1 + 10000 * (e / 9999)

/-- The parent that edge `e` leads to. -/
def dstN (e : ℕ) : ℕ := e % 9999 / 16 + 10000 * (e / 9999)

/-- The place of the child among its parent's children. -/
def posN (e : ℕ) : ℕ := e % 9999 % 16

/-- The number of a graph's node among all nodes. -/
def node (g : Fin 10) (n : Fin 10000) : Fin 100000 := ⟨g.val * 10000 + n.val, by omega⟩

/-- The edge from the child at place `j`. -/
def edge (g : Fin 10) (n : Fin 10000) (j : Fin 16) (h : 16 * n.val + 1 + j.val < 10000) : Fin 99990 :=
  ⟨9999 * g.val + (16 * n.val + j.val), by omega⟩

/-- The edges that lead to a node are those of its children's places. -/
theorem edges_sum {M : Type*} [AddCommMonoid M] (f : Fin 99990 → M) (g : Fin 10) (n : Fin 10000) :
    (∑ e : Fin 99990, if dstN e.val = (node g n).val then f e else 0)
      = ∑ j : Fin 16, if h : 16 * n.val + 1 + j.val < 10000 then f (edge g n j h) else 0 := by
  have h1 : ∀ j : Fin 16, (if h : 16 * n.val + 1 + j.val < 10000 then f (edge g n j h) else 0)
      = ∑ e : Fin 99990, if 16 * n.val + 1 + j.val < 10000 ∧ e.val = 9999 * g.val + (16 * n.val + j.val) then f e else 0 := fun j => by
    by_cases h : 16 * n.val + 1 + j.val < 10000
    · rw [dif_pos h, Finset.sum_eq_single (edge g n j h)]
      · rw [if_pos ⟨h, rfl⟩]
      · intro e _ he
        rw [if_neg]
        rintro ⟨_, h2⟩
        exact he (Fin.ext h2)
      · intro h2
        exact absurd (Finset.mem_univ _) h2
    · rw [dif_neg h]
      exact (Finset.sum_eq_zero fun e _ => if_neg fun h2 => h h2.1).symm
  simp only [h1]
  rw [Finset.sum_comm]
  refine Finset.sum_congr rfl fun e _ => ?_
  have he := e.isLt
  have hn := n.isLt
  have hg := g.isLt
  unfold dstN node
  dsimp only
  by_cases h : e.val % 9999 / 16 + 10000 * (e.val / 9999) = g.val * 10000 + n.val
  · rw [if_pos h, Finset.sum_eq_single (⟨e.val % 9999 % 16, by omega⟩ : Fin 16)]
    · rw [if_pos]
      dsimp only
      omega
    · intro j _ hj
      rw [if_neg]
      rintro ⟨_, h2⟩
      have := j.isLt
      exact hj (Fin.ext (by dsimp only; omega))
    · intro h2
      exact absurd (Finset.mem_univ _) h2
  · rw [if_neg h]
    refine (Finset.sum_eq_zero fun j _ => if_neg ?_).symm
    rintro ⟨h2, h3⟩
    have := j.isLt
    omega

theorem src_edge (g : Fin 10) (n : Fin 10000) (j : Fin 16) (h : 16 * n.val + 1 + j.val < 10000) :
    srcN (edge g n j h).val = (node g ⟨16 * n.val + 1 + j.val, h⟩).val := by
  unfold srcN edge node; dsimp only; omega

theorem pos_edge (g : Fin 10) (n : Fin 10000) (j : Fin 16) (h : 16 * n.val + 1 + j.val < 10000) :
    posN (edge g n j h).val = j.val := by
  unfold posN edge; dsimp only; have := j.isLt
  have h2 : (9999 * g.val + (16 * n.val + j.val)) % 9999 = 16 * n.val + j.val := by omega
  rw [h2]; omega

theorem dst_edge (g : Fin 10) (n : Fin 10000) (j : Fin 16) (h : 16 * n.val + 1 + j.val < 10000) :
    dstN (edge g n j h).val = (node g n).val := by
  unfold dstN edge node; dsimp only; have := j.isLt
  have h1 : (9999 * g.val + (16 * n.val + j.val)) / 9999 = g.val := by omega
  have h2 : (9999 * g.val + (16 * n.val + j.val)) % 9999 = 16 * n.val + j.val := by omega
  rw [h1, h2]; omega

theorem src_lt (e : Fin 99990) : srcN e.val < 100000 := by unfold srcN; omega
theorem dst_lt (e : Fin 99990) : dstN e.val < 100000 := by unfold dstN; omega

/-- How many children a node has. -/
def indeg (n : ℕ) : ℝ := if n < 624 then 16 else if n = 624 then 15 else 0

theorem indeg_sum (n : ℕ) (hn : n < 10000) : (∑ j : Fin 16, if 16 * n + 1 + j.val < 10000 then (1 : ℝ) else 0) = indeg n := by
  unfold indeg
  by_cases h : n < 624
  · rw [if_pos h, Finset.sum_congr rfl fun j _ => if_pos (show 16 * n + 1 + (j : Fin 16).val < 10000 by omega)]
    simp
  · rw [if_neg h]
    by_cases h2 : n = 624
    · subst h2
      rw [if_pos rfl, Fin.sum_univ_castSucc, Finset.sum_congr rfl fun j _ => if_pos (show 16 * 624 + 1 + (Fin.castSucc (j : Fin 15)).val < 10000 by
        rw [Fin.val_castSucc]; omega)]
      simp
    · rw [if_neg h2]
      exact Finset.sum_eq_zero fun j _ => if_neg (by omega)

/-- Of a node with children, the number less one. -/
theorem indeg_dn (n : ℕ) (hn : n < 625) : indeg n = dn n + 1 := by
  unfold indeg dn
  by_cases h : n < 624
  · rw [if_pos h, if_pos h]; norm_num
  · rw [if_neg h, if_neg h, if_pos (by omega)]; norm_num

theorem dn_pos (n : ℕ) : (14 : ℝ) ≤ dn n := by unfold dn; split <;> norm_num

/-- A coefficient of an existing child is not negative. -/
theorem cfL_nonneg (n j : ℕ) (hn : n < 625) (hj : j < 16) (h : 16 * n + 1 + j < 10000) : 0 ≤ cfL (dn n) j := by
  have hd := dn_pos n
  refine div_nonneg (sub_nonneg.2 ?_) (by linarith)
  unfold dn
  split
  · exact_mod_cast (show j ≤ 15 by omega)
  · exact_mod_cast (show j ≤ 14 by omega)
theorem cfR_nonneg (n j : ℕ) : 0 ≤ cfR (dn n) j := by
  have hd := dn_pos n
  exact div_nonneg (Nat.cast_nonneg j) (by linarith)

/-- A sum times a real that is not negative. -/
theorem sum_mul_nonneg {ι : Type*} (s : Finset ι) (f : ι → EReal) (c : ℝ) (hc : 0 ≤ c) : (∑ i ∈ s, f i) * (c : EReal) = ∑ i ∈ s, f i * c := by
  classical
  induction s using Finset.induction_on with
  | empty => simp
  | insert a s ha ih =>
    rw [sum_insert ha, sum_insert ha, EReal.right_distrib_of_nonneg_of_ne_top (EReal.coe_nonneg.2 hc) (EReal.coe_ne_top c), ih]

/-- A product with a real distributes over a sum without the lower infinity. -/
theorem add_mul_real {x y : EReal} (hx : x ≠ ⊥) (hy : y ≠ ⊥) (w : ℝ) : (x + y) * (w : EReal) = x * w + y * w := by
  rcases le_total 0 w with h | h
  · exact EReal.right_distrib_of_nonneg_of_ne_top (EReal.coe_nonneg.2 h) (EReal.coe_ne_top w) x y
  · have e : ∀ z : EReal, z * (w : EReal) = -(z * ((-w : ℝ) : EReal)) := fun z => by
      rw [EReal.coe_neg, mul_neg, neg_neg]
    have hw : (0 : EReal) ≤ ((-w : ℝ) : EReal) := EReal.coe_nonneg.2 (by linarith)
    have nb : ∀ z : EReal, z ≠ ⊥ → z * ((-w : ℝ) : EReal) ≠ ⊥ := fun z hz hb => by
      rcases (EReal.mul_eq_bot z _).1 hb with ⟨h1, _⟩ | ⟨_, h2⟩ | ⟨_, h2⟩ | ⟨_, h2⟩
      · exact hz h1
      · exact EReal.coe_ne_bot _ h2
      · exact absurd h2 (not_lt.2 hw)
      · exact EReal.coe_ne_top _ h2
    rw [e, e x, e y, EReal.right_distrib_of_nonneg_of_ne_top hw (EReal.coe_ne_top _), EReal.neg_add (.inl (nb x hx)) (.inr (nb y hy)), sub_eq_add_neg]

/-- A sum without the lower infinity stays without it. -/
theorem sum_ne_bot {ι : Type*} (s : Finset ι) (f : ι → EReal) (hf : ∀ i, f i ≠ ⊥) : ∑ i ∈ s, f i ≠ ⊥ := by
  classical
  induction s using Finset.induction_on with
  | empty => simp
  | insert a s ha ih =>
    rw [sum_insert ha]
    exact EReal.add_ne_bot_iff.2 ⟨hf a, ih⟩

/-- A product with a real distributes over a sum of many terms without the lower infinity. -/
theorem sum_mul_real {ι : Type*} (s : Finset ι) (f : ι → EReal) (hf : ∀ i, f i ≠ ⊥) (w : ℝ) : (∑ i ∈ s, f i) * (w : EReal) = ∑ i ∈ s, f i * w := by
  classical
  induction s using Finset.induction_on with
  | empty => simp
  | insert a s ha ih => rw [sum_insert ha, sum_insert ha, add_mul_real (hf a) (sum_ne_bot s f hf), ih]

/-- A weight that is not negative keeps a state off the lower infinity. -/
theorem mul_ne_bot {x : EReal} (hx : x ≠ ⊥) (c : ℝ) (hc : 0 ≤ c) : x * (c : EReal) ≠ ⊥ := fun hb => by
  rcases (EReal.mul_eq_bot x _).1 hb with ⟨h1, _⟩ | ⟨_, h2⟩ | ⟨_, h2⟩ | ⟨_, h2⟩
  · exact hx h1
  · exact EReal.coe_ne_bot _ h2
  · exact absurd h2 (not_lt.2 (EReal.coe_nonneg.2 hc))
  · exact EReal.coe_ne_top _ h2

/-- One side's messages to a node, summed, are its children weighted and summed, times the matrix. -/
theorem messages_side (cf : ℝ → ℝ → ℝ) {H : Fin 10000 → Fin 128 → EReal} (U : Up H) {w : Fin 128 → Fin 128 → EReal} (hw : ∀ k c, ∃ r : ℝ, w k c = (r : EReal))
    (n : Fin 10000) (c : Fin 128) (hc : ∀ j : Fin 16, 16 * n.val + 1 + j.val < 10000 → 0 ≤ cf (dn n.val) j.val) :
    (∑ j : Fin 16, if h : 16 * n.val + 1 + j.val < 10000 then (∑ k, H ⟨16 * n.val + 1 + j.val, h⟩ k * w k c) * (cf (dn n.val) j.val : EReal) else 0)
      = ∑ k, kids cf H n.val k * w k c := by
  unfold kids
  have e : ∀ k : Fin 128, (∑ j : Fin 16, if h : 16 * n.val + 1 + j.val < 10000 then H ⟨16 * n.val + 1 + j.val, h⟩ k * (cf (dn n.val) j.val : EReal) else 0) * w k c
      = ∑ j : Fin 16, (if h : 16 * n.val + 1 + j.val < 10000 then H ⟨16 * n.val + 1 + j.val, h⟩ k * (cf (dn n.val) j.val : EReal) else 0) * w k c := fun k => by
    obtain ⟨r, hr⟩ := hw k c
    rw [hr]
    refine sum_mul_real _ _ (fun j => ?_) r
    split
    · rename_i h
      exact mul_ne_bot (U _ _) _ (hc j h)
    · exact EReal.zero_ne_bot
  rw [Finset.sum_congr rfl fun k _ => e k, Finset.sum_comm]
  refine Finset.sum_congr rfl fun j _ => ?_
  by_cases h : 16 * n.val + 1 + j.val < 10000
  · simp only [dif_pos h]
    rw [sum_mul_nonneg _ _ _ (hc j h)]
    exact Finset.sum_congr rfl fun k _ => mul_right_comm _ _ _
  · simp [dif_neg h]

/-- The sum of the messages to a node is what its children, weighted and summed, give when multiplied by the matrices. -/
theorem messages {H : Fin 10000 → Fin 128 → EReal} (U : Up H) {wl wr : Fin 128 → Fin 128 → EReal} (hl : ∀ k c, ∃ r : ℝ, wl k c = (r : EReal))
    (hr : ∀ k c, ∃ r : ℝ, wr k c = (r : EReal)) (n : Fin 10000) (hn : n.val < 625) (c : Fin 128) :
    (∑ j : Fin 16, if h : 16 * n.val + 1 + j.val < 10000 then
        (∑ k, H ⟨16 * n.val + 1 + j.val, h⟩ k * wl k c) * (cfL (dn n.val) j.val : EReal) + (∑ k, H ⟨16 * n.val + 1 + j.val, h⟩ k * wr k c) * (cfR (dn n.val) j.val : EReal)
      else 0) = ∑ k, kids cfL H n.val k * wl k c + ∑ k, kids cfR H n.val k * wr k c := by
  rw [← messages_side cfL U hl n c (fun j h => cfL_nonneg _ _ hn j.isLt h), ← messages_side cfR U hr n c (fun j _ => cfR_nonneg _ _), ← Finset.sum_add_distrib]
  refine Finset.sum_congr rfl fun j _ => ?_
  split
  · rfl
  · rw [add_zero]

end Cert.Tree
-- ==== Proof.TreeReference.lean ====
/- The reference's tree convolution read at an index: its stages as functions of arrays, and each layer as `Cert.Tree.step` on each graph. -/
module

public import proofs.«01_k».proof.Proof.TreeScatter
public import proofs.«01_k».proof.Proof.TreeEdges

@[expose] public section
set_option maxRecDepth 16384
noncomputable section
namespace Cert.TreeR
open Idealize.ShloMosaic
open Cert.ReferenceIdeal Cert.ReferenceIdeal.Read Cert.ReferenceIdeal.Gen Cert.Tree

/-- Edges' words as a column. -/
def colE (S : IVec S99990 32) : IVec S99990x1 32 := broadcastInDim S99990x1 ![0] bcast_S99990_S99990x1_0 S

/-- Words, those below zero counted from the end. -/
def wrapE (S : IVec S99990 32) : IVec S99990 32 :=
  select (cmpi .slt S (broadcastInDim S99990 ![] bcast_S_S99990 (constantI S_ 32 0#32)))
    (addi S (broadcastInDim S99990 ![] bcast_S_S99990 (constantI S_ 32 100000#32))) S

/-- One number at every edge. -/
def allE (w : BitVec 32) : FVec Ideal S99990 .f32 := broadcastInDim S99990 ![] bcast_S_S99990 (constant S_ .f32 w)

/-- The number of children of every node. -/
def degR (D : IVec S99990 32) : FVec Ideal S100000 .f32 :=
  Host.scatterAdd scatter_S100000_S99990x1_S99990_n_0_0_1 (broadcastInDim S100000 ![] bcast_S_S100000 (constant (F := Ideal) S_ .f32 0x0#32)) (colE D) (allE 0x3f800000#32)

/-- The number of siblings of every edge's child, itself included. -/
def cntR (D : IVec S99990 32) : FVec Ideal S99990 .f32 :=
  Host.gather gather_S100000_S99990x1_S99990_n_0_n_n_0_1_1 (degR D) (colE (wrapE D))

/-- Coefficients of one side, `1`-child parents apart. -/
def cofR (D : IVec S99990 32) (num : FVec Ideal S99990 .f32) (w : BitVec 32) : FVec Ideal S99990 .f32 :=
  select (cmpf .ole (cntR D) (allE 0x3f800000#32)) (allE w)
    (Host.divf num (maximumf (subf (cntR D) (allE 0x3f800000#32)) (allE 0x3f800000#32)))

/-- Left coefficients. -/
def leR (D P : IVec S99990 32) : FVec Ideal S99990 .f32 :=
  cofR D (subf (subf (cntR D) (allE 0x3f800000#32)) (sitofp .f32 P)) 0x3f800000#32

/-- Right coefficients. -/
def riR (D P : IVec S99990 32) : FVec Ideal S99990 .f32 := cofR D (sitofp .f32 P) 0x0#32

/-- Which nodes have children. -/
def hcR (D : IVec S99990 32) : IVec S100000x1 1 :=
  broadcastInDim S100000x1 ![0] bcast_S100000_S100000x1_0 (cmpf .ogt (degR D) (broadcastInDim S100000 ![] bcast_S_S100000 (constant (F := Ideal) S_ .f32 0x0#32)))

/-- The states of the edges' children. -/
def srcR (H : FVec Ideal S100000x128 .f32) (S : IVec S99990 32) : FVec Ideal S99990x128 .f32 :=
  Host.gather gather_S100000x128_S99990x1_S99990x128_1_0_n_n_0_1_1128 H (colE (wrapE S))

/-- The messages along the edges. -/
def msgR (G : FVec Ideal S99990x128 .f32) (le ri : FVec Ideal S99990 .f32) (wl wr : FVec Ideal S128x128 .f32) : FVec Ideal S99990x128 .f32 :=
  addf (mulf (Host.dotGeneral dot_S99990x128_S128x128_S99990x128_1_0_0_1_n_n none G wl)
      (broadcastInDim S99990x128 ![0, 1] bcast_S99990x1_S99990x128_0_1 (broadcastInDim S99990x1 ![0] bcast_S99990_S99990x1_0 le)))
    (mulf (Host.dotGeneral dot_S99990x128_S128x128_S99990x128_1_0_0_1_n_n none G wr)
      (broadcastInDim S99990x128 ![0, 1] bcast_S99990x1_S99990x128_0_1 (broadcastInDim S99990x1 ![0] bcast_S99990_S99990x1_0 ri)))

/-- What a node with children becomes, from its summed messages. -/
def mixR (A H : FVec Ideal S100000x128 .f32) (wt : FVec Ideal S128x128 .f32) (b : FVec Ideal S1x128 .f32) : FVec Ideal S100000x128 .f32 :=
  maximumf (addf (addf A (Host.dotGeneral dot_S100000x128_S128x128_S100000x128_1_0_0_1_n_n none H wt)) (broadcastInDim S100000x128 ![0, 1] bcast_S1x128_S100000x128_0_1 b))
    (broadcastInDim S100000x128 ![] bcast_S_S100000x128 (constant (F := Ideal) S_ .f32 0x0#32))

/-- The summed messages. -/
def sumR (D : IVec S99990 32) (M : FVec Ideal S99990x128 .f32) : FVec Ideal S100000x128 .f32 :=
  Host.scatterAdd scatter_S100000x128_S99990x1_S99990x128_1_0_0_1 (broadcastInDim S100000x128 ![] bcast_S_S100000x128 (constant (F := Ideal) S_ .f32 0x0#32)) (colE D) M

/-- A layer. -/
def layerR (S D P : IVec S99990 32) (H : FVec Ideal S100000x128 .f32) (wl wr wt : FVec Ideal S128x128 .f32) (b : FVec Ideal S1x128 .f32) : FVec Ideal S100000x128 .f32 :=
  select (broadcastInDim S100000x128 ![0, 1] bcast_S100000x1_S100000x128_0_1 (hcR D))
    (mixR (sumR D (msgR (srcR H S) (leR D P) (riR D P) wl wr)) H wt b) H

theorem v81_eq (x0 x1 : IVec S100000 32) (x2 : IVec S2x99990 32) (x3 : IVec S99990 32) (x4 : FVec Ideal S100x64 .f32) (x5 : FVec Ideal S10000x64 .f32) (x6 x7 x8 : FVec Ideal S4x128x128 .f32) (x9 : FVec Ideal S4x1x128 .f32) :
    val_main_v81 (F := Ideal) x0 x1 x2 x3 x4 x5 x6 x7 x8 x9
      = layerR (val_main_v1 (F := Ideal) x2) (val_main_v3 (F := Ideal) x2) x3 (val_main_v18 (F := Ideal) x0 x1 x4 x5) (val_main_v57 (F := Ideal) x6) (val_main_v63 (F := Ideal) x7) (val_main_v73 (F := Ideal) x8) (val_main_v77 (F := Ideal) x9) := rfl

theorem v114_eq (x0 x1 : IVec S100000 32) (x2 : IVec S2x99990 32) (x3 : IVec S99990 32) (x4 : FVec Ideal S100x64 .f32) (x5 : FVec Ideal S10000x64 .f32) (x6 x7 x8 : FVec Ideal S4x128x128 .f32) (x9 : FVec Ideal S4x1x128 .f32) :
    val_main_v114 (F := Ideal) x0 x1 x2 x3 x4 x5 x6 x7 x8 x9
      = layerR (val_main_v1 (F := Ideal) x2) (val_main_v3 (F := Ideal) x2) x3 (val_main_v81 (F := Ideal) x0 x1 x2 x3 x4 x5 x6 x7 x8 x9) (val_main_v90 (F := Ideal) x6) (val_main_v96 (F := Ideal) x7) (val_main_v106 (F := Ideal) x8) (val_main_v110 (F := Ideal) x9) := rfl

theorem v147_eq (x0 x1 : IVec S100000 32) (x2 : IVec S2x99990 32) (x3 : IVec S99990 32) (x4 : FVec Ideal S100x64 .f32) (x5 : FVec Ideal S10000x64 .f32) (x6 x7 x8 : FVec Ideal S4x128x128 .f32) (x9 : FVec Ideal S4x1x128 .f32) :
    val_main_v147 (F := Ideal) x0 x1 x2 x3 x4 x5 x6 x7 x8 x9
      = layerR (val_main_v1 (F := Ideal) x2) (val_main_v3 (F := Ideal) x2) x3 (val_main_v114 (F := Ideal) x0 x1 x2 x3 x4 x5 x6 x7 x8 x9) (val_main_v123 (F := Ideal) x6) (val_main_v129 (F := Ideal) x7) (val_main_v139 (F := Ideal) x8) (val_main_v143 (F := Ideal) x9) := rfl

theorem v180_eq (x0 x1 : IVec S100000 32) (x2 : IVec S2x99990 32) (x3 : IVec S99990 32) (x4 : FVec Ideal S100x64 .f32) (x5 : FVec Ideal S10000x64 .f32) (x6 x7 x8 : FVec Ideal S4x128x128 .f32) (x9 : FVec Ideal S4x1x128 .f32) :
    val_main_v180 (F := Ideal) x0 x1 x2 x3 x4 x5 x6 x7 x8 x9
      = layerR (val_main_v1 (F := Ideal) x2) (val_main_v3 (F := Ideal) x2) x3 (val_main_v147 (F := Ideal) x0 x1 x2 x3 x4 x5 x6 x7 x8 x9) (val_main_v156 (F := Ideal) x6) (val_main_v162 (F := Ideal) x7) (val_main_v172 (F := Ideal) x8) (val_main_v176 (F := Ideal) x9) := rfl

theorem colE_at (S : IVec S99990 32) (e : Fin 99990) : colE S (ix2 e 0) = S (ix1 e) := by
  pointwise [colE]

theorem wrapE_at (S : IVec S99990 32) (t : ℕ) (ht : t < 100000) (e : Fin 99990) (h : S (ix1 e) = BitVec.ofNat 32 t) : wrapE S (ix1 e) = BitVec.ofNat 32 t := by
  have h1 : wrapE S (ix1 e) = Scalar.select (IntOp.cmpi .slt (S (ix1 e)) 0#32) (S (ix1 e) + 100000#32) (S (ix1 e)) := rfl
  rw [h1, h]
  exact Routing.wrap_of_lt _ _ (by rw [BitVec.toNat_ofNat]; omega)

theorem allE_one (i : S99990.Idx) : allE 0x3f800000#32 i = 1 := Ideal.ofBits_one_f32
theorem allE_zero (i : S99990.Idx) : allE 0x0#32 i = 0 := Ideal.ofBits_zero_f32

theorem msgR_at (G le ri wl wr) (e : Fin 99990) (c : Fin 128) :
    msgR G le ri wl wr (ix2 e c) = (∑ k : Fin 128, G (ix2 e k) * wl (ix2 k c)) * le (ix1 e) + (∑ k : Fin 128, G (ix2 e k) * wr (ix2 k c)) * ri (ix1 e) := by
  pointwise [msgR]

theorem mixR_at (A H wt b) (n : Fin 100000) (c : Fin 128) :
    mixR A H wt b (ix2 n c) = max (A (ix2 n c) + ∑ k : Fin 128, H (ix2 n k) * wt (ix2 k c) + b (ix2 0 c)) 0 := by
  pointwise [mixR]

end Cert.TreeR
-- ==== Proof.TreeLayers.lean ====
/- The reference's tree convolution on edges that hold the trees: every layer, on each graph, is `Cert.Tree.step`. -/
module

public import proofs.«01_k».proof.Proof.TreeReference

@[expose] public section
set_option maxRecDepth 16384
noncomputable section
namespace Cert.TreeR
open Idealize.ShloMosaic
open Cert.ReferenceIdeal Cert.ReferenceIdeal.Read Cert.ReferenceIdeal.Gen Cert.Tree

/-- The edges hold the ten trees. -/
structure Edges (S D P : IVec S99990 32) : Prop where
  src : ∀ e : Fin 99990, S (ix1 e) = BitVec.ofNat 32 (srcN e.val)
  dst : ∀ e : Fin 99990, D (ix1 e) = BitVec.ofNat 32 (dstN e.val)
  pos : ∀ e : Fin 99990, P (ix1 e) = BitVec.ofNat 32 (posN e.val)

variable {S D P : IVec S99990 32} (E : Edges S D P)
include E

/-- The number of children of a node. -/
theorem degR_at (g : Fin 10) (n : Fin 10000) : degR D (ix1 (node g n)) = (indeg n.val : EReal) := by
  refine (scatter_one _ _ _ dstN (fun e => (colE_at D e).trans (E.dst e)) (fun e => by have := dst_lt e; omega) (node g n)).trans ?_
  rw [edges_sum (fun e => allE 0x3f800000#32 (ix1 e))]
  simp only [allE_one]
  rw [← indeg_sum n.val n.isLt, coe_sum]
  refine (congrArg (· + _) (show _ = (0 : EReal) from Ideal.ofBits_zero_f32)).trans ((zero_add _).trans (Finset.sum_congr rfl fun j _ => ?_))
  split <;> rfl

/-- The number of children of an edge's parent. -/
theorem cntR_at (g : Fin 10) (n : Fin 10000) (e : Fin 99990) (h : dstN e.val = (node g n).val) : cntR D (ix1 e) = (indeg n.val : EReal) := by
  refine (Routing.gather_take1 _ rfl rfl rfl rfl _ _ e (node g n) ?_ (by norm_num)).trans (degR_at E g n)
  refine (colE_at _ e).trans (wrapE_at D (node g n).val (node g n).isLt e ?_)
  rw [E.dst e, h]

omit E in
theorem not_le_one (x : ℝ) (h : 1 < x) (a b : EReal) :
    Scalar.select (FloatOps.cmpf (F := Ideal) (φ := .f32) .ole (x : EReal) (1 : EReal)) a b = b := by
  have h1 : ¬ ((x : EReal) ≤ 1) := by
    rw [← EReal.coe_one, EReal.coe_le_coe_iff]; linarith
  show Scalar.select (BitVec.ofBool (decide ((x : EReal) ≤ 1))) a b = b
  rw [decide_eq_false h1]; rfl

theorem den_at (g : Fin 10) (n : Fin 10000) (hn : n.val < 625) (e : Fin 99990) (h : dstN e.val = (node g n).val) (num : FVec Ideal S99990 .f32) (w : BitVec 32) (x : ℝ) (hx : num (ix1 e) = (x : EReal)) :
    cofR D num w (ix1 e) = ((x / dn n.val : ℝ) : EReal) := by
  have hd := dn_pos n.val
  have h1 : cofR D num w (ix1 e) = Scalar.select (FloatOps.cmpf (F := Ideal) (φ := .f32) .ole (cntR D (ix1 e)) (allE 0x3f800000#32 (ix1 e))) (allE w (ix1 e))
      (Ideal.div (num (ix1 e)) (max (cntR D (ix1 e) - allE 0x3f800000#32 (ix1 e)) (allE 0x3f800000#32 (ix1 e)))) := by
    unfold cofR
    generalize cntR D = C
    generalize allE 0x3f800000#32 = o
    rfl
  rw [h1, allE_one, cntR_at E g n e h, indeg_dn _ hn, not_le_one _ (by linarith), hx, ← EReal.coe_one, ← EReal.coe_sub, ← coe_max, max_eq_left (by linarith),
    show dn n.val + 1 - 1 = dn n.val by ring, Ideal.div_coe (by linarith), ← EReal.coe_mul, mul_one_div]

theorem pos_at (e : Fin 99990) : sitofp (F := Ideal) .f32 P (ix1 e) = ((posN e.val : ℝ) : EReal) := by
  show (((P (ix1 e)).toInt : ℝ) : EReal) = _
  rw [E.pos e, toInt_small _ (by unfold posN; omega)]
  norm_cast

theorem leR_at (g : Fin 10) (n : Fin 10000) (hn : n.val < 625) (e : Fin 99990) (h : dstN e.val = (node g n).val) :
    leR D P (ix1 e) = (cfL (dn n.val) (posN e.val) : EReal) := by
  refine den_at E g n hn e h _ _ (dn n.val - posN e.val) ?_
  show cntR D (ix1 e) - allE 0x3f800000#32 (ix1 e) - sitofp (F := Ideal) .f32 P (ix1 e) = _
  rw [allE_one, cntR_at E g n e h, indeg_dn _ hn, pos_at E, ← EReal.coe_one, ← EReal.coe_sub, ← EReal.coe_sub]
  congr 1; ring

theorem riR_at (g : Fin 10) (n : Fin 10000) (hn : n.val < 625) (e : Fin 99990) (h : dstN e.val = (node g n).val) :
    riR D P (ix1 e) = (cfR (dn n.val) (posN e.val) : EReal) :=
  den_at E g n hn e h _ _ (posN e.val) (pos_at E e)

theorem hcR_at (g : Fin 10) (n : Fin 10000) (c : Fin 128) :
    broadcastInDim S100000x128 ![0, 1] bcast_S100000x1_S100000x128_0_1 (hcR D) (ix2 (node g n) c) = if n.val < 625 then 1#1 else 0#1 := by
  have h1 : broadcastInDim S100000x128 ![0, 1] bcast_S100000x1_S100000x128_0_1 (hcR D) (ix2 (node g n) c)
      = BitVec.ofBool (decide ((0 : EReal) < degR D (ix1 (node g n)))) := by
    unfold hcR
    refine (Routing.bcRows _ _ _ (node g n) c).trans ?_
    generalize degR D = C
    show FloatOps.cmpf (F := Ideal) (φ := .f32) .ogt (C (ix1 (node g n))) (FloatOps.ofBits .f32 0x0#32 : Ideal .f32) = _
    rw [show (FloatOps.ofBits .f32 0x0#32 : Ideal .f32) = (0 : EReal) from Ideal.ofBits_zero_f32]
    rfl
  rw [h1, degR_at E]
  by_cases h : n.val < 625
  · rw [if_pos h, indeg_dn _ h, decide_eq_true]
    · rfl
    · have := dn_pos n.val
      exact EReal.coe_pos.2 (by linarith)
  · rw [if_neg h, decide_eq_false]
    · rfl
    · unfold indeg
      rw [if_neg (by omega), if_neg (by omega), EReal.coe_zero]
      exact lt_irrefl _

/-- A layer on each graph. -/
theorem layerR_at (H : FVec Ideal S100000x128 .f32) (Hr : Fin 10 → Fin 10000 → Fin 128 → EReal) (hH : ∀ g n c, H (ix2 (node g n) c) = (Hr g n c : EReal))
    (wl wr wt : FVec Ideal S128x128 .f32) (b : FVec Ideal S1x128 .f32) (wl' wr' wt' : Fin 128 → Fin 128 → EReal) (b' : Fin 128 → EReal)
    (U : ∀ g, Up (Hr g)) (fl : ∀ k c, ∃ r : ℝ, wl' k c = (r : EReal)) (fr : ∀ k c, ∃ r : ℝ, wr' k c = (r : EReal))
    (h1 : ∀ k c, wl (ix2 k c) = (wl' k c : EReal)) (h2 : ∀ k c, wr (ix2 k c) = (wr' k c : EReal)) (h3 : ∀ k c, wt (ix2 k c) = (wt' k c : EReal))
    (h4 : ∀ c, b (ix2 0 c) = (b' c : EReal)) (g : Fin 10) (n : Fin 10000) (c : Fin 128) :
    layerR S D P H wl wr wt b (ix2 (node g n) c) = (step (Hr g) wl' wr' wt' b' n c : EReal) := by
  have hs : ∀ i, layerR S D P H wl wr wt b i = Scalar.select (broadcastInDim S100000x128 ![0, 1] bcast_S100000x1_S100000x128_0_1 (hcR D) i)
      (mixR (sumR D (msgR (srcR H S) (leR D P) (riR D P) wl wr)) H wt b i) (H i) := fun i => rfl
  rw [hs, hcR_at E]
  unfold step
  by_cases hn : n.val < 625
  · rw [if_pos hn, if_pos hn]
    show mixR _ H wt b (ix2 (node g n) c) = _
    rw [mixR_at]
    have hsrc : ∀ (j : Fin 16) (h : 16 * n.val + 1 + j.val < 10000) (k : Fin 128), srcR H S (ix2 (edge g n j h) k) = (Hr g ⟨16 * n.val + 1 + j.val, h⟩ k : EReal) := fun j h k => by
      refine (Routing.gather_row _ rfl rfl rfl rfl rfl H _ (edge g n j h) k (node g ⟨16 * n.val + 1 + j.val, h⟩) ?_ (by norm_num)).trans (hH _ _ _)
      refine (colE_at _ _).trans (wrapE_at S _ (node g _).isLt _ ?_)
      rw [E.src, src_edge]
    have hm : ∀ (j : Fin 16) (h : 16 * n.val + 1 + j.val < 10000), msgR (srcR H S) (leR D P) (riR D P) wl wr (ix2 (edge g n j h) c)
        = ((∑ k, Hr g ⟨16 * n.val + 1 + j.val, h⟩ k * wl' k c) * (cfL (dn n.val) j.val : EReal) + (∑ k, Hr g ⟨16 * n.val + 1 + j.val, h⟩ k * wr' k c) * (cfR (dn n.val) j.val : EReal)) := fun j h => by
      rw [msgR_at, leR_at E g n hn _ (dst_edge g n j h), riR_at E g n hn _ (dst_edge g n j h), pos_edge]
      simp only [hsrc j h, h1, h2]
    have hA : sumR D (msgR (srcR H S) (leR D P) (riR D P) wl wr) (ix2 (node g n) c)
        = ∑ k, kids cfL (Hr g) n.val k * wl' k c + ∑ k, kids cfR (Hr g) n.val k * wr' k c := by
      refine (scatter_rows _ _ _ dstN (fun e => (colE_at D e).trans (E.dst e)) (fun e => by have := dst_lt e; omega) (node g n) c).trans ?_
      rw [edges_sum (fun e => msgR (srcR H S) (leR D P) (riR D P) wl wr (ix2 e c)), ← messages (U g) fl fr n hn c]
      refine (congrArg (· + _) (show _ = (0 : EReal) from Ideal.ofBits_zero_f32)).trans ((zero_add _).trans (Finset.sum_congr rfl fun j _ => ?_))
      by_cases h : 16 * n.val + 1 + j.val < 10000
      · rw [dif_pos h, dif_pos h, hm j h]
      · rw [dif_neg h, dif_neg h]
    rw [hA]
    unfold mix
    simp only [hH, h3, h4]
  · rw [if_neg hn, if_neg hn]
    exact hH g n c

end Cert.TreeR
-- ==== Proof.RouteReference.lean ====
/- The reference's routing read at an index: its stages as functions of arrays, each one graph's `Cert.Route` function. -/
module

public import proofs.«01_k».proof.Proof.Gen.ReferenceIdeal.Read
public import proofs.«01_k».proof.Proof.RouteSpec

@[expose] public section
set_option maxRecDepth 16384
noncomputable section
namespace Cert.RouteR
open Idealize.ShloMosaic Cert.ReferenceIdeal Cert.ReferenceIdeal.Read Cert.ReferenceIdeal.Gen

/-- A round's agreements. -/
def alphaStep (U : FVec Ideal S10x2048x4 .f32) (V : FVec Ideal S10x1024x4 .f32) (A : FVec Ideal S10x2048x1024 .f32) : FVec Ideal S10x2048x1024 .f32 :=
  addf (Host.dotGeneral dot_S10x2048x4_S10x1024x4_S10x2048x1024_2_2_1_1_0_0 none U V) A

/-- A maximum over the last of three axes, read at an index; the sizes are variables. -/
theorem maxLast {a b n : ℕ} (A : FVec Ideal ⟨3, ![a, b, n]⟩ .f32) (c : FVec Ideal ⟨0, ![]⟩ .f32)
    (h : (⟨3, ![a, b, n]⟩ : Shape).ReducesTo [2] ⟨2, ![a, b]⟩) (hu : 0 < (⟨0, ![]⟩ : Shape).numel) (x : Fin a) (y : Fin b) :
    Host.reduce FloatOps.maximumf A c h hu (ix2 x y) = Finset.univ.fold max (c (Shape.Idx.first hu)) fun k => A (ix3 x y k) := by
  simp only [pointwise]

/-- A sum over the last of three axes, read at an index; the sizes are variables. -/
theorem sumLast {a b n : ℕ} (A : FVec Ideal ⟨3, ![a, b, n]⟩ .f32) (c : FVec Ideal ⟨0, ![]⟩ .f32)
    (h : (⟨3, ![a, b, n]⟩ : Shape).ReducesTo [2] ⟨2, ![a, b]⟩) (hu : 0 < (⟨0, ![]⟩ : Shape).numel) (x : Fin a) (y : Fin b) :
    Host.reduceAdd A c h hu (ix2 x y) = c (Shape.Idx.first hu) + ∑ k, A (ix3 x y k) := by
  simp only [pointwise, Ideal.hostReduceAdd_def]

/-- A maximum from minus infinity isn't changed by another comparison with minus infinity. -/
theorem max_top {n : ℕ} (b : EReal) (f : Fin n → EReal) : max b (Finset.univ.fold max b f) = Finset.univ.fold max b f := by
  refine max_eq_right ?_
  rw [Finset.le_fold_max]
  exact .inl le_rfl

/-- The row's greatest agreement. -/
def rowMax (A : FVec Ideal S10x2048x1024 .f32) : FVec Ideal S10x2048 .f32 :=
  maximumf (broadcastInDim S10x2048 ![] bcast_S_S10x2048 (constant S_ .f32 0xFF800000#32))
    (Host.reduce FloatOps.maximumf A (constant S_ .f32 0xFF800000#32) reducesTo_S10x2048x1024_S10x2048_d2 h_S_)

/-- The exponentials of a row, its greatest entry taken off. -/
def rowExp (A : FVec Ideal S10x2048x1024 .f32) (m : FVec Ideal S10x2048 .f32) : FVec Ideal S10x2048x1024 .f32 :=
  Host.exp (subf A (broadcastInDim S10x2048x1024 ![0, 1, 2] bcast_S10x2048x1_S10x2048x1024_0_1_2
    (broadcastInDim S10x2048x1 ![0, 1] bcast_S10x2048_S10x2048x1_0_1 m)))

/-- The sum of a row. -/
def rowSum (e : FVec Ideal S10x2048x1024 .f32) : FVec Ideal S10x2048 .f32 :=
  Host.reduceAdd e (constant S_ .f32 0x00000000#32) reducesTo_S10x2048x1024_S10x2048_d2 h_S_

/-- A row over a number of that row. -/
def rowDiv (e : FVec Ideal S10x2048x1024 .f32) (d : FVec Ideal S10x2048 .f32) : FVec Ideal S10x2048x1024 .f32 :=
  Host.divf e (broadcastInDim S10x2048x1024 ![0, 1, 2] bcast_S10x2048x1_S10x2048x1024_0_1_2
    (broadcastInDim S10x2048x1 ![0, 1] bcast_S10x2048_S10x2048x1_0_1 d))

/-- The softmax over the upper capsules. -/
def softStep (A : FVec Ideal S10x2048x1024 .f32) : FVec Ideal S10x2048x1024 .f32 :=
  rowDiv (rowExp A (rowMax A)) (rowSum (rowExp A (rowMax A)))

/-- The greater of two arrays at an index. -/
theorem max_at {s : Shape} (X Y : FVec Ideal s .f32) (i : s.Idx) : maximumf X Y i = max (X i : EReal) (Y i) := rfl

theorem rowMax_at (A : FVec Ideal S10x2048x1024 .f32) (a : Fin 10 → Fin 2048 → Fin 1024 → EReal) (hA : ∀ g i j, A (ix3 g i j) = a g i j)
    (g : Fin 10) (i : Fin 2048) : rowMax A (ix2 g i) = Route.top (a g i) := by
  have h := maxLast A (constant S_ .f32 0xFF800000#32) reducesTo_S10x2048x1024_S10x2048_d2 h_S_ g i
  simp only [hA] at h
  have b : broadcastInDim S10x2048 ![] bcast_S_S10x2048 (constant (F := Ideal) S_ .f32 0xFF800000#32) (ix2 g i) = Ideal.ofBits FTy.f32 0xFF800000#32 := rfl
  rw [rowMax, max_at, h, b]
  exact max_top _ _

theorem rowExp_at (A : FVec Ideal S10x2048x1024 .f32) (m : FVec Ideal S10x2048 .f32)
    (g : Fin 10) (i : Fin 2048) (j : Fin 1024) : rowExp A m (ix3 g i j) = Ideal.exp (A (ix3 g i j) - m (ix2 g i)) := by
  pointwise [rowExp]

theorem rowSum_at (e : FVec Ideal S10x2048x1024 .f32) (g : Fin 10) (i : Fin 2048) : rowSum e (ix2 g i) = ∑ k, e (ix3 g i k) :=
  (sumLast e (constant S_ .f32 0x00000000#32) reducesTo_S10x2048x1024_S10x2048_d2 h_S_ g i).trans
    ((congrArg (· + ∑ k, e (ix3 g i k)) Ideal.ofBits_zero_f32).trans (zero_add _))

theorem rowDiv_at (e : FVec Ideal S10x2048x1024 .f32) (d : FVec Ideal S10x2048 .f32)
    (g : Fin 10) (i : Fin 2048) (j : Fin 1024) : rowDiv e d (ix3 g i j) = Ideal.div (e (ix3 g i j)) (d (ix2 g i)) := by
  pointwise [rowDiv]

/-- The upper capsules as weighted sums. -/
def voteStep (B : FVec Ideal S10x2048x1024 .f32) (U : FVec Ideal S10x2048x4 .f32) : FVec Ideal S10x1024x4 .f32 :=
  Host.dotGeneral dot_S10x2048x1024_S10x2048x4_S10x1024x4_1_1_2_2_0_0 none B U

theorem softStep_at (A : FVec Ideal S10x2048x1024 .f32) (a : Fin 10 → Fin 2048 → Fin 1024 → EReal) (hA : ∀ g i j, A (ix3 g i j) = a g i j)
    (g : Fin 10) (i : Fin 2048) (j : Fin 1024) : softStep A (ix3 g i j) = Route.soft (a g i) j := by
  simp only [softStep, rowDiv_at, rowSum_at, rowExp_at, rowMax_at A a hA, hA, Route.soft]

theorem alphaStep_at (U : FVec Ideal S10x2048x4 .f32) (u : Fin 10 → Fin 2048 → Fin 4 → EReal) (hU : ∀ g i m, U (ix3 g i m) = u g i m)
    (V : FVec Ideal S10x1024x4 .f32) (v : Fin 10 → Fin 1024 → Fin 4 → EReal) (hV : ∀ g i m, V (ix3 g i m) = v g i m)
    (A : FVec Ideal S10x2048x1024 .f32) (a : Fin 10 → Fin 2048 → Fin 1024 → EReal) (hA : ∀ g i j, A (ix3 g i j) = a g i j)
    (g : Fin 10) (i : Fin 2048) (j : Fin 1024) : alphaStep U V A (ix3 g i j) = Route.more (u g) (a g) (v g) i j := by
  pointwise [alphaStep]
  simp only [hU, hV, hA, Route.more, Route.agree]
  exact add_comm _ _

theorem voteStep_at (U : FVec Ideal S10x2048x4 .f32) (u : Fin 10 → Fin 2048 → Fin 4 → EReal) (hU : ∀ g i m, U (ix3 g i m) = u g i m)
    (B : FVec Ideal S10x2048x1024 .f32) (b : Fin 10 → Fin 2048 → Fin 1024 → EReal) (hB : ∀ g i j, B (ix3 g i j) = b g i j)
    (g : Fin 10) (j : Fin 1024) (m : Fin 4) : voteStep B U (ix3 g j m) = Route.vote (u g) (b g) j m := by
  pointwise [voteStep]
  simp only [hU, hB, Route.vote]

/-- The squash over the last axis of the upper capsules. -/
def squashStep (v : FVec Ideal S10x1024x4 .f32) : FVec Ideal S10x1024x4 .f32 :=
  have sq : FVec Ideal S10x1024x1 .f32 := broadcastInDim S10x1024x1 ![0, 1] bcast_S10x1024_S10x1024x1_0_1
    (Host.reduceAdd (mulf v v) (constant S_ .f32 0x00000000#32) reducesTo_S10x1024x4_S10x1024_d2 h_S_)
  have d : FVec Ideal S10x1024x1 .f32 := Host.divf sq (addf (broadcastInDim S10x1024x1 ![] bcast_S_S10x1024x1 (constant S_ .f32 0x3F800000#32)) sq)
  have r : FVec Ideal S10x1024x1 .f32 := Host.sqrt (addf sq (broadcastInDim S10x1024x1 ![] bcast_S_S10x1024x1 (constant S_ .f32 0x2EDBE6FF#32)))
  mulf (broadcastInDim S10x1024x4 ![0, 1, 2] bcast_S10x1024x1_S10x1024x4_0_1_2
    (Host.divf d (addf r (broadcastInDim S10x1024x1 ![] bcast_S_S10x1024x1 (constant S_ .f32 0x322BCC77#32))))) v

theorem squashStep_at (o : FVec Ideal S10x1024x4 .f32) (f : Fin 10 → Fin 1024 → Fin 4 → EReal) (ho : ∀ g j m, o (ix3 g j m) = f g j m)
    (g : Fin 10) (j : Fin 1024) (m : Fin 4) : squashStep o (ix3 g j m) = f g j m * Route.scale (∑ k, f g j k * f g j k) := by
  pointwise [squashStep]
  simp only [ho, Route.scale, Ideal.ofBits_one_f32]
  exact mul_comm _ _

/-- The predictions. -/
def predictStep (o : FVec Ideal S10x1024x4 .f32) (W : FVec Ideal S1024x16x10x4 .f32) : FVec Ideal S10x1024x10x16 .f32 :=
  transpose S10x1024x10x16 [1, 0, 3, 2] (Host.dotGeneral dot_S10x1024x4_S1024x16x10x4_S1024x10x16x10_2_3_0_12_1_0 none o W)
    transposes_S1024x10x16x10_S10x1024x10x16_1_0_3_2

theorem predictStep_at (o : FVec Ideal S10x1024x4 .f32) (f : Fin 10 → Fin 1024 → Fin 4 → EReal) (ho : ∀ g j m, o (ix3 g j m) = f g j m)
    (W : FVec Ideal S1024x16x10x4 .f32) (g : Fin 10) (n : Fin 1024) (s : Fin 10) (c : Fin 16) :
    predictStep o W (ix4 g n s c) = Route.predict (fun n c s m => W (ix4 n c s m)) (f g) n s c := by
  pointwise [predictStep]
  simp only [ho, Route.predict]
  exact Finset.sum_congr rfl fun _ _ => mul_comm _ _

/-- The softmax over the classes. -/
def softC (D : FVec Ideal S10x1024x10 .f32) : FVec Ideal S10x1024x10 .f32 :=
  have m : FVec Ideal S10x1024 .f32 := maximumf (broadcastInDim S10x1024 ![] bcast_S_S10x1024 (constant S_ .f32 0xFF800000#32))
    (Host.reduce FloatOps.maximumf D (constant S_ .f32 0xFF800000#32) reducesTo_S10x1024x10_S10x1024_d2 h_S_)
  have e : FVec Ideal S10x1024x10 .f32 := Host.exp (subf D (broadcastInDim S10x1024x10 ![0, 1, 2] bcast_S10x1024x1_S10x1024x10_0_1_2
    (broadcastInDim S10x1024x1 ![0, 1] bcast_S10x1024_S10x1024x1_0_1 m)))
  Host.divf e (broadcastInDim S10x1024x10 ![0, 1, 2] bcast_S10x1024x1_S10x1024x10_0_1_2
    (broadcastInDim S10x1024x1 ![0, 1] bcast_S10x1024_S10x1024x1_0_1
      (Host.reduceAdd e (constant S_ .f32 0x00000000#32) reducesTo_S10x1024x10_S10x1024_d2 h_S_)))

theorem softC_at (A : FVec Ideal S10x1024x10 .f32) (a : Fin 10 → Fin 1024 → Fin 10 → EReal) (hA : ∀ g i j, A (ix3 g i j) = a g i j)
    (g : Fin 10) (i : Fin 1024) (j : Fin 10) : softC A (ix3 g i j) = Route.soft (a g i) j := by
  pointwise [softC]
  simp only [hA, Route.soft, Route.top, max_top]

/-- The class capsules before squashing. -/
def gatherC (G : FVec Ideal S10x1024x10 .f32) (M : FVec Ideal S10x1024x10x16 .f32) : FVec Ideal S10x10x16 .f32 :=
  Host.dotGeneral dot_S10x1024x10_S10x1024x10x16_S10x10x16_1_1_n_3_02_02 none G M

/-- The squash of the class capsules. -/
def squashC (v : FVec Ideal S10x10x16 .f32) : FVec Ideal S10x10x16 .f32 :=
  have sq : FVec Ideal S10x10x1 .f32 := broadcastInDim S10x10x1 ![0, 1] bcast_S10x10_S10x10x1_0_1
    (Host.reduceAdd (mulf v v) (constant S_ .f32 0x00000000#32) reducesTo_S10x10x16_S10x10_d2 h_S_)
  have d : FVec Ideal S10x10x1 .f32 := Host.divf sq (addf (broadcastInDim S10x10x1 ![] bcast_S_S10x10x1 (constant S_ .f32 0x3F800000#32)) sq)
  have r : FVec Ideal S10x10x1 .f32 := Host.sqrt (addf sq (broadcastInDim S10x10x1 ![] bcast_S_S10x10x1 (constant S_ .f32 0x2EDBE6FF#32)))
  mulf (broadcastInDim S10x10x16 ![0, 1, 2] bcast_S10x10x1_S10x10x16_0_1_2
    (Host.divf d (addf r (broadcastInDim S10x10x1 ![] bcast_S_S10x10x1 (constant S_ .f32 0x322BCC77#32))))) v

/-- A round's class agreements added to those so far. -/
def raiseC (z : FVec Ideal S10x10x16 .f32) (M : FVec Ideal S10x1024x10x16 .f32) (D : FVec Ideal S10x1024x10 .f32) : FVec Ideal S10x1024x10 .f32 :=
  addf (transpose S10x1024x10 [0, 2, 1] (Host.dotGeneral dot_S10x10x16_S10x1024x10x16_S10x10x1024_2_3_n_1_01_02 none z M)
    transposes_S10x10x1024_S10x1024x10_0_2_1) D

/-- The class capsules' lengths. -/
def lengthC (z : FVec Ideal S10x10x16 .f32) : FVec Ideal S10x10 .f32 :=
  Host.sqrt (addf (Host.reduceAdd (mulf z z) (constant S_ .f32 0x00000000#32) reducesTo_S10x10x16_S10x10_d2 h_S_)
    (broadcastInDim S10x10 ![] bcast_S_S10x10 (constant S_ .f32 0x2EDBE6FF#32)))

section
variable (M : FVec Ideal S10x1024x10x16 .f32) (p : Fin 10 → Fin 1024 → Fin 10 → Fin 16 → EReal) (hM : ∀ g n s c, M (ix4 g n s c) = p g n s c)
include hM

theorem gatherC_at (D : FVec Ideal S10x1024x10 .f32) (d : Fin 10 → Fin 1024 → Fin 10 → EReal) (hD : ∀ g n s, D (ix3 g n s) = d g n s)
    (g : Fin 10) (s : Fin 10) (c : Fin 16) : gatherC (softC D) M (ix3 g s c) = Route.gather (p g) (d g) s c := by
  pointwise [gatherC]
  simp only [softC_at D d hD, hM, Route.gather]
omit hM

theorem squashC_at (x : FVec Ideal S10x10x16 .f32) (f : Fin 10 → Fin 10 → Fin 16 → EReal) (hx : ∀ g s c, x (ix3 g s c) = f g s c)
    (g : Fin 10) (s : Fin 10) (c : Fin 16) : squashC x (ix3 g s c) = Route.squash (f g) s c := by
  pointwise [squashC]
  simp only [hx, Route.squash, Route.scale, Ideal.ofBits_one_f32]
  exact mul_comm _ _
include hM

theorem raiseC_at (D : FVec Ideal S10x1024x10 .f32) (d : Fin 10 → Fin 1024 → Fin 10 → EReal) (hD : ∀ g n s, D (ix3 g n s) = d g n s)
    (g : Fin 10) (n : Fin 1024) (s : Fin 10) :
    raiseC (squashC (gatherC (softC D) M)) M D (ix3 g n s) = Route.raise (p g) (d g) n s := by
  pointwise [raiseC]
  simp only [hM, hD, squashC_at _ _ (gatherC_at M p hM D d hD), Route.raise]
  refine (add_comm _ _).trans (congrArg (d g n s + ·) (Finset.sum_congr rfl fun _ _ => mul_comm _ _))
omit hM

theorem lengthC_at (x : FVec Ideal S10x10x16 .f32) (f : Fin 10 → Fin 10 → Fin 16 → EReal) (hx : ∀ g s c, x (ix3 g s c) = f g s c)
    (g : Fin 10) (s : Fin 10) : lengthC x (ix2 g s) = Route.logit (f g) s := by
  pointwise [lengthC]
  simp only [hx, Route.logit]
end

/-- Every graph's logits from its chosen features, in the reference's stages. -/
def routeStep (U : FVec Ideal S10x2048x4 .f32) (V : FVec Ideal S10x1024x4 .f32) (W : FVec Ideal S1024x16x10x4 .f32) : FVec Ideal S10x10 .f32 :=
  have A1 := alphaStep U V (broadcastInDim S10x2048x1024 ![] bcast_S_S10x2048x1024 (constant S_ .f32 0x00000000#32))
  have A2 := alphaStep U (voteStep (softStep A1) U) A1
  have A3 := alphaStep U (voteStep (softStep A2) U) A2
  have M := predictStep (squashStep (voteStep (softStep A3) U)) W
  have D0 : FVec Ideal S10x1024x10 .f32 := broadcastInDim S10x1024x10 ![] bcast_S_S10x1024x10 (constant S_ .f32 0x00000000#32)
  have D1 := raiseC (squashC (gatherC (softC D0) M)) M D0
  have D2 := raiseC (squashC (gatherC (softC D1) M)) M D1
  lengthC (squashC (gatherC (softC D2) M))

theorem routeStep_at (U : FVec Ideal S10x2048x4 .f32) (u : Fin 10 → Fin 2048 → Fin 4 → EReal) (hU : ∀ g i m, U (ix3 g i m) = u g i m)
    (V : FVec Ideal S10x1024x4 .f32) (v : Fin 10 → Fin 1024 → Fin 4 → EReal) (hV : ∀ g i m, V (ix3 g i m) = v g i m)
    (W : FVec Ideal S1024x16x10x4 .f32) (g s : Fin 10) :
    routeStep U V W (ix2 g s) = Route.route (u g) (v g) (fun n c s m => W (ix4 n c s m)) s := by
  have a0 : ∀ g i j, broadcastInDim S10x2048x1024 ![] bcast_S_S10x2048x1024 (constant (F := Ideal) S_ .f32 0x00000000#32) (ix3 g i j) = (fun _ _ _ => 0 : Fin 10 → Fin 2048 → Fin 1024 → EReal) g i j :=
    fun g i j => Ideal.ofBits_zero_f32
  have d0 : ∀ g i j, broadcastInDim S10x1024x10 ![] bcast_S_S10x1024x10 (constant (F := Ideal) S_ .f32 0x00000000#32) (ix3 g i j) = (fun _ _ _ => 0 : Fin 10 → Fin 1024 → Fin 10 → EReal) g i j :=
    fun g i j => Ideal.ofBits_zero_f32
  have a1 := alphaStep_at U u hU V v hV _ _ a0
  have a2 := alphaStep_at U u hU _ _ (voteStep_at U u hU _ _ (softStep_at _ _ a1)) _ _ a1
  have a3 := alphaStep_at U u hU _ _ (voteStep_at U u hU _ _ (softStep_at _ _ a2)) _ _ a2
  have hM := predictStep_at _ _ (squashStep_at _ _ (voteStep_at U u hU _ _ (softStep_at _ _ a3))) W
  have d1 := raiseC_at _ _ hM _ _ d0
  have d2 := raiseC_at _ _ hM _ _ d1
  exact lengthC_at _ _ (squashC_at _ _ (gatherC_at _ _ hM _ _ d2)) g s

/-- The printed routing is those stages. -/
theorem val_route_eq (x0 x1 : (⟨S100000, .i32⟩ : BufTy).Contents (Elt Ideal)) (x2 : (⟨S2x99990, .i32⟩ : BufTy).Contents (Elt Ideal)) (x3 : (⟨S99990, .i32⟩ : BufTy).Contents (Elt Ideal)) (x4 : (⟨S100x64, .f32⟩ : BufTy).Contents (Elt Ideal)) (x5 : (⟨S10000x64, .f32⟩ : BufTy).Contents (Elt Ideal)) (x6 x7 x8 : (⟨S4x128x128, .f32⟩ : BufTy).Contents (Elt Ideal)) (x9 : (⟨S4x1x128, .f32⟩ : BufTy).Contents (Elt Ideal)) (x10 : (⟨S1024x16x10x4, .f32⟩ : BufTy).Contents (Elt Ideal)) :
    val_main_v372 (F := Ideal) x0 x1 x2 x3 x4 x5 x6 x7 x8 x9 x10
      = routeStep (val_main_v207 (F := Ideal) x0 x1 x2 x3 x4 x5 x6 x7 x8 x9) (val_main_v223 (F := Ideal) x0 x1 x2 x3 x4 x5 x6 x7 x8 x9) x10 := rfl

end Cert.RouteR
end
-- ==== Proof.TreeStates.lean ====
/- The reference's states after each layer, as the extended reals `Cert.Tree.layers` on each graph, and their squared norms. -/
module

public import proofs.«01_k».proof.Proof.TreeLayers
public import proofs.«01_k».proof.Proof.RouteReference

@[expose] public section
set_option maxRecDepth 16384
noncomputable section
namespace Cert.TreeR
open Idealize.ShloMosaic
open Cert.ReferenceIdeal Cert.ReferenceIdeal.Read Cert.ReferenceIdeal.Gen Cert.Tree

/-- The numbers behind the arguments: the initial states of every graph, the matrices and the offsets of every layer; the states and the children's matrices are real. -/
structure Reals (h18 : FVec Ideal S100000x128 .f32) (x6 x7 x8 : FVec Ideal S4x128x128 .f32) (x9 : FVec Ideal S4x1x128 .f32)
    (h0 : Fin 10 → Fin 10000 → Fin 128 → EReal) (wl wr wt : Fin 4 → Fin 128 → Fin 128 → EReal) (b : Fin 4 → Fin 128 → EReal) : Prop where
  init : ∀ g n c, h18 (ix2 (node g n) c) = (h0 g n c : EReal)
  left : ∀ l k c, x6 (ix3 l k c) = (wl l k c : EReal)
  right : ∀ l k c, x7 (ix3 l k c) = (wr l k c : EReal)
  top : ∀ l k c, x8 (ix3 l k c) = (wt l k c : EReal)
  off : ∀ l c, x9 (ix3 l 0 c) = (b l c : EReal)
  realInit : ∀ g, Real0 (h0 g)
  realLeft : ∀ l k c, ∃ r : ℝ, wl l k c = (r : EReal)
  realRight : ∀ l k c, ∃ r : ℝ, wr l k c = (r : EReal)

theorem w0_at (x : FVec Ideal S4x128x128 .f32) (k c : Fin 128) : val_main_v57 (F := Ideal) x (ix2 k c) = x (ix3 0 k c) := by
  pointwise [val_main_v57, val_main_v56]
theorem w1_at (x : FVec Ideal S4x128x128 .f32) (k c : Fin 128) : val_main_v90 (F := Ideal) x (ix2 k c) = x (ix3 1 k c) := by
  pointwise [val_main_v90, val_main_v89]
theorem w2_at (x : FVec Ideal S4x128x128 .f32) (k c : Fin 128) : val_main_v123 (F := Ideal) x (ix2 k c) = x (ix3 2 k c) := by
  pointwise [val_main_v123, val_main_v122]
theorem w3_at (x : FVec Ideal S4x128x128 .f32) (k c : Fin 128) : val_main_v156 (F := Ideal) x (ix2 k c) = x (ix3 3 k c) := by
  pointwise [val_main_v156, val_main_v155]
theorem b0_at (x : FVec Ideal S4x1x128 .f32) (c : Fin 128) : val_main_v77 (F := Ideal) x (ix2 0 c) = x (ix3 0 0 c) := by
  pointwise [val_main_v77, val_main_v76]
theorem b1_at (x : FVec Ideal S4x1x128 .f32) (c : Fin 128) : val_main_v110 (F := Ideal) x (ix2 0 c) = x (ix3 1 0 c) := by
  pointwise [val_main_v110, val_main_v109]
theorem b2_at (x : FVec Ideal S4x1x128 .f32) (c : Fin 128) : val_main_v143 (F := Ideal) x (ix2 0 c) = x (ix3 2 0 c) := by
  pointwise [val_main_v143, val_main_v142]
theorem b3_at (x : FVec Ideal S4x1x128 .f32) (c : Fin 128) : val_main_v176 (F := Ideal) x (ix2 0 c) = x (ix3 3 0 c) := by
  pointwise [val_main_v176, val_main_v175]

variable {x0 x1 : IVec S100000 32} {x2 : IVec S2x99990 32} {x3 : IVec S99990 32} {x4 : FVec Ideal S100x64 .f32} {x5 : FVec Ideal S10000x64 .f32}
  {x6 x7 x8 : FVec Ideal S4x128x128 .f32} {x9 : FVec Ideal S4x1x128 .f32}
  {h0 : Fin 10 → Fin 10000 → Fin 128 → EReal} {wl wr wt : Fin 4 → Fin 128 → Fin 128 → EReal} {b : Fin 4 → Fin 128 → EReal}
  (E : Edges (val_main_v1 (F := Ideal) x2) (val_main_v3 (F := Ideal) x2) x3)
  (R : Reals (val_main_v18 (F := Ideal) x0 x1 x4 x5) x6 x7 x8 x9 h0 wl wr wt b)
include E R

theorem v81_at (g n c) : val_main_v81 (F := Ideal) x0 x1 x2 x3 x4 x5 x6 x7 x8 x9 (ix2 (node g n) c) = (layers (h0 g) wl wr wt b 0 n c : EReal) := by
  rw [v81_eq]
  exact layerR_at E _ h0 R.init _ _ _ _ (wl 0) (wr 0) (wt 0) (b 0) (fun g => up_start (R.realInit g)) (R.realLeft 0) (R.realRight 0) (fun k c => (w0_at _ k c).trans (R.left 0 k c))
    (fun k c => (w0_at _ k c).trans (R.right 0 k c)) (fun k c => (w0_at _ k c).trans (R.top 0 k c)) (fun c => (b0_at _ c).trans (R.off 0 c)) g n c

theorem v114_at (g n c) : val_main_v114 (F := Ideal) x0 x1 x2 x3 x4 x5 x6 x7 x8 x9 (ix2 (node g n) c) = (layers (h0 g) wl wr wt b 1 n c : EReal) := by
  rw [v114_eq]
  exact layerR_at E _ (fun g => layers (h0 g) wl wr wt b 0) (v81_at E R) _ _ _ _ (wl 1) (wr 1) (wt 1) (b 1) (fun g => up_layers (R.realInit g) wl wr wt b 0) (R.realLeft 1) (R.realRight 1) (fun k c => (w1_at _ k c).trans (R.left 1 k c))
    (fun k c => (w1_at _ k c).trans (R.right 1 k c)) (fun k c => (w1_at _ k c).trans (R.top 1 k c)) (fun c => (b1_at _ c).trans (R.off 1 c)) g n c

theorem v147_at (g n c) : val_main_v147 (F := Ideal) x0 x1 x2 x3 x4 x5 x6 x7 x8 x9 (ix2 (node g n) c) = (layers (h0 g) wl wr wt b 2 n c : EReal) := by
  rw [v147_eq]
  exact layerR_at E _ (fun g => layers (h0 g) wl wr wt b 1) (v114_at E R) _ _ _ _ (wl 2) (wr 2) (wt 2) (b 2) (fun g => up_layers (R.realInit g) wl wr wt b 1) (R.realLeft 2) (R.realRight 2) (fun k c => (w2_at _ k c).trans (R.left 2 k c))
    (fun k c => (w2_at _ k c).trans (R.right 2 k c)) (fun k c => (w2_at _ k c).trans (R.top 2 k c)) (fun c => (b2_at _ c).trans (R.off 2 c)) g n c

theorem v180_at (g n c) : val_main_v180 (F := Ideal) x0 x1 x2 x3 x4 x5 x6 x7 x8 x9 (ix2 (node g n) c) = (layers (h0 g) wl wr wt b 3 n c : EReal) := by
  rw [v180_eq]
  exact layerR_at E _ (fun g => layers (h0 g) wl wr wt b 2) (v147_at E R) _ _ _ _ (wl 3) (wr 3) (wt 3) (b 3) (fun g => up_layers (R.realInit g) wl wr wt b 2) (R.realLeft 3) (R.realRight 3) (fun k c => (w3_at _ k c).trans (R.left 3 k c))
    (fun k c => (w3_at _ k c).trans (R.right 3 k c)) (fun k c => (w3_at _ k c).trans (R.top 3 k c)) (fun c => (b3_at _ c).trans (R.off 3 c)) g n c

end Cert.TreeR
-- ==== Proof.TopPick.lean ====
/- The positions of a row's greatest entries: `top_k`'s indices as naturals, the first eight those of the first sixteen. -/
module

public import proofs.«01_k».proof.Proof.RouteSpec

@[expose] public section
set_option maxRecDepth 16384
noncomputable section
namespace Cert.Pick
open Idealize.ShloMosaic

/-- The position of the `t`-th greatest entry of row `g`. -/
def pick {A N : ℕ} (X : (⟨2, ![A, N]⟩ : Shape).Idx → EReal) (g : Fin A) (t : Fin N) : Fin N :=
  sortedFrom (fun k k' => FloatOps.cmpfTotal (F := Ideal) (φ := .f32) .gt (X ((ix2 g t : (⟨2, ![A, N]⟩ : Shape).Idx).along 1 k))
    (X ((ix2 g t : (⟨2, ![A, N]⟩ : Shape).Idx).along 1 k')) == 1#1) t

/-- The second result of the pair sort with the column numbers: the permutation itself. -/
theorem sorted_cols {A N : ℕ} (X : FVec Ideal ⟨2, ![A, N]⟩ .f32) (g : Fin A) (t : Fin N) :
    (Host.sort2 ⟨2, ![A, N]⟩ 1 (fun l r => FloatOps.cmpfTotal (F := Ideal) (φ := .f32) .gt l.1 r.1) X
      (fun i => if hd : 1 < (⟨2, ![A, N]⟩ : Shape).rank then iotaInDim ⟨2, ![A, N]⟩ 32 ⟨1, hd⟩ i else 0#32)).2 (ix2 g t)
      = BitVec.ofNat 32 (pick X g t).val := rfl

/-- The indices of the `k` greatest entries. -/
theorem topK_at {A N k : ℕ} (X : FVec Ideal ⟨2, ![A, N]⟩ .f32) (h : (⟨2, ![A, N]⟩ : Shape).Slices (fun _ => 0) ⟨2, ![A, k]⟩) (g : Fin A) (t : Fin k) (t' : Fin N) (ht : t'.val = t.val) :
    (Host.topK ⟨2, ![A, k]⟩ 1 (FloatOps.cmpfTotal .gt) X h).2 (ix2 g t) = BitVec.ofNat 32 (pick X g t').val := by
  rw [← sorted_cols]
  unfold Host.topK
  dsimp only
  generalize (Host.sort2 _ _ _ _ _).2 = Y
  refine congrArg Y ?_
  funext a
  match a with
  | ⟨0, _⟩ => exact Fin.ext (Nat.zero_add _)
  | ⟨1, _⟩ => exact Fin.ext ((Nat.zero_add _).trans ht.symm)

end Cert.Pick
-- ==== Proof.GatherPair.lean ====
/- Gathers of slices by two index words, of a graph and of a row in it, read at an index. -/
module

public import proofs.«01_k».proof.Proof.RouteSpec
public import Idealize.ShloMosaic.Lib.Routing.OpsPair

@[expose] public section
noncomputable section
namespace Cert.Pick
open Idealize.ShloMosaic

/-- A start that holds a natural in range is that natural. -/
theorem start_min (w : BitVec 32) (a N : ℕ) (hw : w = BitVec.ofNat 32 a) (ha : a < N) (hN : N < 2 ^ 31) : min w.toInt.toNat (N - 1) = a := by
  rw [hw, StableHlo.Predicate.toInt_ofNat_small _ (by omega)]
  omega

/-- Slices of the two last of four axes. -/
theorem gather_last2 {α : Type} {A N C L k : ℕ} (d : GatherDims ⟨4, ![A, N, C, L]⟩ ⟨3, ![A, k, 2]⟩ ⟨4, ![A, k, C, L]⟩)
    (h1 : d.offsetDims = [2, 3]) (h2 : d.collapsedSliceDims = [0, 1]) (h3 : d.operandBatchingDims = []) (h4 : d.startIndicesBatchingDims = [])
    (h5 : d.startIndexMap = [0, 1]) (h6 : d.indexVectorDim = 2) (h7 : d.sliceSizes = ![1, 1, C, L])
    (x : (⟨4, ![A, N, C, L]⟩ : Shape).Idx → α) (idx : IVec ⟨3, ![A, k, 2]⟩ 32) (g : Fin A) (t : Fin k) (c : Fin C) (l : Fin L) (a : Fin A) (n : Fin N)
    (ha : idx (ix3 g t 0) = BitVec.ofNat 32 a.val) (hn : idx (ix3 g t 1) = BitVec.ofNat 32 n.val) (hA : A < 2 ^ 31) (hN : N < 2 ^ 31) :
    Host.gather d x idx (ix4 g t c l) = x (ix4 a n c l) := by
  obtain ⟨o, cs, ob, sb, sm, iv, ss, wf⟩ := d
  dsimp only at h1 h2 h3 h4 h5 h6 h7
  subst h1 h2 h3 h4 h5 h6 h7
  refine congrArg x (funext fun b => Fin.ext ?_)
  match b with
  | ⟨0, _⟩ =>
    refine Eq.trans ?_ (start_min (idx (ix3 g t 0)) a.val A ha a.isLt hA)
    show _ + 0 + 0 = _
    refine congrArg (fun i => min (idx i).toInt.toNat (A - 1)) ?_
    funext e; fin_cases e <;> rfl
  | ⟨1, _⟩ =>
    refine Eq.trans ?_ (start_min (idx (ix3 g t 1)) n.val N hn n.isLt hN)
    show _ + 0 + 0 = _
    refine congrArg (fun i => min (idx i).toInt.toNat (N - 1)) ?_
    funext e; fin_cases e <;> rfl
  | ⟨2, _⟩ => exact Nat.zero_add _
  | ⟨3, _⟩ => exact Nat.zero_add _

/-- Slices of the second and last of four axes. -/
theorem gather_odd {α : Type} {A N C L k : ℕ} (d : GatherDims ⟨4, ![A, L, N, C]⟩ ⟨3, ![A, k, 2]⟩ ⟨4, ![A, k, L, C]⟩)
    (h1 : d.offsetDims = [2, 3]) (h2 : d.collapsedSliceDims = [0, 2]) (h3 : d.operandBatchingDims = []) (h4 : d.startIndicesBatchingDims = [])
    (h5 : d.startIndexMap = [0, 2]) (h6 : d.indexVectorDim = 2) (h7 : d.sliceSizes = ![1, L, 1, C])
    (x : (⟨4, ![A, L, N, C]⟩ : Shape).Idx → α) (idx : IVec ⟨3, ![A, k, 2]⟩ 32) (g : Fin A) (t : Fin k) (l : Fin L) (c : Fin C) (a : Fin A) (n : Fin N)
    (ha : idx (ix3 g t 0) = BitVec.ofNat 32 a.val) (hn : idx (ix3 g t 1) = BitVec.ofNat 32 n.val) (hA : A < 2 ^ 31) (hN : N < 2 ^ 31) :
    Host.gather d x idx (ix4 g t l c) = x (ix4 a l n c) := by
  obtain ⟨o, cs, ob, sb, sm, iv, ss, wf⟩ := d
  dsimp only at h1 h2 h3 h4 h5 h6 h7
  subst h1 h2 h3 h4 h5 h6 h7
  refine congrArg x (funext fun b => Fin.ext ?_)
  match b with
  | ⟨0, _⟩ =>
    refine Eq.trans ?_ (start_min (idx (ix3 g t 0)) a.val A ha a.isLt hA)
    show _ + 0 + 0 = _
    refine congrArg (fun i => min (idx i).toInt.toNat (A - 1)) ?_
    funext e; fin_cases e <;> rfl
  | ⟨2, _⟩ =>
    refine Eq.trans ?_ (start_min (idx (ix3 g t 1)) n.val N hn n.isLt hN)
    show _ + 0 + 0 = _
    refine congrArg (fun i => min (idx i).toInt.toNat (N - 1)) ?_
    funext e; fin_cases e <;> rfl
  | ⟨1, _⟩ => exact Nat.zero_add _
  | ⟨3, _⟩ => exact Nat.zero_add _

/-- Slices of the last of three axes. -/
theorem gather_last1 {α : Type} {A N C k : ℕ} (d : GatherDims ⟨3, ![A, N, C]⟩ ⟨3, ![A, k, 2]⟩ ⟨3, ![A, k, C]⟩)
    (h1 : d.offsetDims = [2]) (h2 : d.collapsedSliceDims = [0, 1]) (h3 : d.operandBatchingDims = []) (h4 : d.startIndicesBatchingDims = [])
    (h5 : d.startIndexMap = [0, 1]) (h6 : d.indexVectorDim = 2) (h7 : d.sliceSizes = ![1, 1, C])
    (x : (⟨3, ![A, N, C]⟩ : Shape).Idx → α) (idx : IVec ⟨3, ![A, k, 2]⟩ 32) (g : Fin A) (t : Fin k) (c : Fin C) (a : Fin A) (n : Fin N)
    (ha : idx (ix3 g t 0) = BitVec.ofNat 32 a.val) (hn : idx (ix3 g t 1) = BitVec.ofNat 32 n.val) (hA : A < 2 ^ 31) (hN : N < 2 ^ 31) :
    Host.gather d x idx (ix3 g t c) = x (ix3 a n c) := by
  obtain ⟨o, cs, ob, sb, sm, iv, ss, wf⟩ := d
  dsimp only at h1 h2 h3 h4 h5 h6 h7
  subst h1 h2 h3 h4 h5 h6 h7
  refine congrArg x (funext fun b => Fin.ext ?_)
  match b with
  | ⟨0, _⟩ =>
    refine Eq.trans ?_ (start_min (idx (ix3 g t 0)) a.val A ha a.isLt hA)
    show _ + 0 + 0 = _
    refine congrArg (fun i => min (idx i).toInt.toNat (A - 1)) ?_
    funext e; fin_cases e <;> rfl
  | ⟨1, _⟩ =>
    refine Eq.trans ?_ (start_min (idx (ix3 g t 1)) n.val N hn n.isLt hN)
    show _ + 0 + 0 = _
    refine congrArg (fun i => min (idx i).toInt.toNat (N - 1)) ?_
    funext e; fin_cases e <;> rfl
  | ⟨2, _⟩ => exact Nat.zero_add _

end Cert.Pick
-- ==== Proof.SelReference.lean ====
/- What the reference hands its routing: the squared norms it ranks nodes by, and the states of the nodes it picks. -/
module

public import proofs.«01_k».proof.Proof.TreeStates
public import proofs.«01_k».proof.Proof.TopPick
public import proofs.«01_k».proof.Proof.GatherPair

@[expose] public section
set_option maxRecDepth 16384
noncomputable section
namespace Cert.TreeR
open Idealize.ShloMosaic
open Cert.ReferenceIdeal Cert.ReferenceIdeal.Read Cert.ReferenceIdeal.Gen Cert.Tree

/-- Four matrices side by side, read at one of them. -/
theorem stack4 {N C : ℕ} (f : Fin 4 → FVec Ideal ⟨3, ![N, C, 1]⟩ .f32)
    (h : Shape.Concatenates [⟨3, ![N, C, 1]⟩, ⟨3, ![N, C, 1]⟩, ⟨3, ![N, C, 1]⟩, ⟨3, ![N, C, 1]⟩] ⟨3, ![N, C, 4]⟩ 2) (n : Fin N) (c : Fin C) (l : Fin 4) :
    concatenate (⟨3, ![N, C, 4]⟩ : Shape) 2 [⟨⟨3, ![N, C, 1]⟩, f 0⟩, ⟨⟨3, ![N, C, 1]⟩, f 1⟩, ⟨⟨3, ![N, C, 1]⟩, f 2⟩, ⟨⟨3, ![N, C, 1]⟩, f 3⟩] h (ix3 n c l) = f l (ix3 n c 0) :=
  concatenate_ofFn_unit_apply (t := ⟨3, ![N, C, 4]⟩) (s₁ := ⟨3, ![N, C, 1]⟩) 2 f h rfl rfl (ix3 n c l) l rfl (ix3 n c 0)
    (fun b hb => by
      match b with
      | ⟨0, _⟩ => rfl
      | ⟨1, _⟩ => rfl
      | ⟨2, _⟩ => exact absurd rfl hb)

/-- The sum of the squares of a node's states, laid out in one row, is the double sum. -/
theorem norm_sum {A N C L K : ℕ} (hK : K = C * L) (Y : FVec Ideal ⟨4, ![A, N, C, L]⟩ .f32) (h : (⟨4, ![A, N, C, L]⟩ : Shape).ShapeCasts ⟨3, ![A, N, K]⟩)
    (c0 : FVec Ideal ⟨0, ![]⟩ .f32) (hr : (⟨3, ![A, N, K]⟩ : Shape).ReducesTo [2] ⟨2, ![A, N]⟩) (hu : 0 < (⟨0, ![]⟩ : Shape).numel) (g : Fin A) (n : Fin N) :
    Host.reduceAdd (mulf (shapeCast ⟨3, ![A, N, K]⟩ Y h) (shapeCast ⟨3, ![A, N, K]⟩ Y h)) c0 hr hu (ix2 g n)
      = c0 (Shape.Idx.first hu) + ∑ l, ∑ c, Y (ix4 g n c l) * Y (ix4 g n c l) := by
  subst hK
  have hk : ∀ (c : Fin C) (l : Fin L), shapeCast ⟨3, ![A, N, C * L]⟩ Y h (ix3 g n (finProdFinEquiv (c, l))) = Y (ix4 g n c l) := fun c l => by
    refine shapeCast_apply Y _ _ _ ?_
    rw [Shape.rowMajor_val_three, Shape.rowMajor_val_four]
    show ((g.val * N + n.val) * C + c.val) * L + l.val = (g.val * N + n.val) * (C * L) + (l.val + L * c.val)
    ring
  rw [RouteR.sumLast]
  refine congrArg _ ?_
  rw [Finset.sum_comm, ← Fintype.sum_prod_type (f := fun p : Fin C × Fin L => Y (ix4 g n p.1 p.2) * Y (ix4 g n p.1 p.2))]
  refine (Fintype.sum_equiv finProdFinEquiv _ _ fun p => ?_).symm
  rw [← hk]
  rfl

/-- The words of a graph's number and of a row, side by side. -/
theorem pair_left {A k : ℕ} (x y : IVec ⟨3, ![A, k, 1]⟩ 32) (h : Shape.Concatenates [⟨3, ![A, k, 1]⟩, ⟨3, ![A, k, 1]⟩] ⟨3, ![A, k, 2]⟩ 2) (g : Fin A) (t : Fin k) :
    concatenate (⟨3, ![A, k, 2]⟩ : Shape) 2 [⟨⟨3, ![A, k, 1]⟩, x⟩, ⟨⟨3, ![A, k, 1]⟩, y⟩] h (ix3 g t 0) = x (ix3 g t 0) :=
  concatenate_pair_apply_left (s₁ := ⟨3, ![A, k, 1]⟩) (s₂ := ⟨3, ![A, k, 1]⟩) (t := ⟨3, ![A, k, 2]⟩) 2 x y h (ix3 g t 0) rfl (ix3 g t 0) (fun b => by fin_cases b <;> rfl)

theorem pair_right {A k : ℕ} (x y : IVec ⟨3, ![A, k, 1]⟩ 32) (h : Shape.Concatenates [⟨3, ![A, k, 1]⟩, ⟨3, ![A, k, 1]⟩] ⟨3, ![A, k, 2]⟩ 2) (g : Fin A) (t : Fin k) :
    concatenate (⟨3, ![A, k, 2]⟩ : Shape) 2 [⟨⟨3, ![A, k, 1]⟩, x⟩, ⟨⟨3, ![A, k, 1]⟩, y⟩] h (ix3 g t 1) = y (ix3 g t 0) :=
  concatenate_pair_apply_right (s₁ := ⟨3, ![A, k, 1]⟩) (s₂ := ⟨3, ![A, k, 1]⟩) (t := ⟨3, ![A, k, 2]⟩) 2 x y h (ix3 g t 1) rfl rfl (ix3 g t 0) (fun b hb => by
    match b with
    | ⟨0, _⟩ => rfl
    | ⟨1, _⟩ => rfl
    | ⟨2, _⟩ => exact absurd rfl hb) rfl

/-- A word below the size isn't counted from the end. -/
theorem wrap_word (w a : BitVec 32) (n : ℕ) (hw : w = BitVec.ofNat 32 n) (hn : n < 2 ^ 31) : Scalar.select (IntOp.cmpi .slt w 0#32) a w = BitVec.ofNat 32 n := by
  rw [Routing.wrap_of_lt w a (by rw [hw, BitVec.toNat_ofNat]; omega), hw]

theorem gwords_at (g : Fin 10) (t : Fin 16) : val_main_v203 (F := Ideal) (ix3 g t 0) = BitVec.ofNat 32 g.val := by
  have h1 : val_main_v203 (F := Ideal) (ix3 g t 0) = val_main_v196 (F := Ideal) (ix2 g 0) := by pointwise [val_main_v203, val_main_v202]
  have h2 : val_main_v191 (F := Ideal) (ix2 g 0) = BitVec.ofNat 32 g.val := rfl
  rw [h1]
  exact wrap_word _ _ g.val h2 (by omega)

theorem gwords8_at (g : Fin 10) (t : Fin 8) : val_main_v219 (F := Ideal) (ix3 g t 0) = BitVec.ofNat 32 g.val := by
  have h1 : val_main_v219 (F := Ideal) (ix3 g t 0) = val_main_v212 (F := Ideal) (ix2 g 0) := by pointwise [val_main_v219, val_main_v218]
  have h2 : val_main_v191 (F := Ideal) (ix2 g 0) = BitVec.ofNat 32 g.val := rfl
  rw [h1]
  exact wrap_word _ _ g.val h2 (by omega)

variable {x0 x1 : IVec S100000 32} {x2 : IVec S2x99990 32} {x3 : IVec S99990 32} {x4 : FVec Ideal S100x64 .f32} {x5 : FVec Ideal S10000x64 .f32}
  {x6 x7 x8 : FVec Ideal S4x128x128 .f32} {x9 : FVec Ideal S4x1x128 .f32}

theorem rwords_at (g : Fin 10) (t : Fin 16) : val_main_v204 (F := Ideal) x0 x1 x2 x3 x4 x5 x6 x7 x8 x9 (ix3 g t 0)
    = BitVec.ofNat 32 (Pick.pick (val_main_v189 (F := Ideal) x0 x1 x2 x3 x4 x5 x6 x7 x8 x9) g ⟨t.val, by omega⟩).val := by
  have h1 : val_main_v204 (F := Ideal) x0 x1 x2 x3 x4 x5 x6 x7 x8 x9 (ix3 g t 0) = val_main_v201 (F := Ideal) x0 x1 x2 x3 x4 x5 x6 x7 x8 x9 (ix2 g t) := by
    unfold val_main_v204
    generalize val_main_v201 (F := Ideal) x0 x1 x2 x3 x4 x5 x6 x7 x8 x9 = y
    simp only [pointwise]
    rfl
  have h2 : val_main_v201 (F := Ideal) x0 x1 x2 x3 x4 x5 x6 x7 x8 x9 (ix2 g t) = Scalar.select (IntOp.cmpi .slt (val_main_indices (F := Ideal) x0 x1 x2 x3 x4 x5 x6 x7 x8 x9 (ix2 g t)) 0#32)
      (val_main_v200 (F := Ideal) x0 x1 x2 x3 x4 x5 x6 x7 x8 x9 (ix2 g t)) (val_main_indices (F := Ideal) x0 x1 x2 x3 x4 x5 x6 x7 x8 x9 (ix2 g t)) := by
    rw [val_main_v201_apply, val_main_v198_apply]
    generalize val_main_indices (F := Ideal) x0 x1 x2 x3 x4 x5 x6 x7 x8 x9 = y
    rfl
  have h3 : val_main_indices (F := Ideal) x0 x1 x2 x3 x4 x5 x6 x7 x8 x9 (ix2 g t) = BitVec.ofNat 32 (Pick.pick (val_main_v189 (F := Ideal) x0 x1 x2 x3 x4 x5 x6 x7 x8 x9) g ⟨t.val, by omega⟩).val := by
    unfold val_main_indices
    generalize val_main_v189 (F := Ideal) x0 x1 x2 x3 x4 x5 x6 x7 x8 x9 = y
    exact Pick.topK_at y _ g t ⟨t.val, by omega⟩ rfl
  rw [h1, h2]
  exact wrap_word _ _ _ h3 (lt_trans (Fin.isLt _) (by norm_num))

theorem rwords8_at (g : Fin 10) (t : Fin 8) : val_main_v220 (F := Ideal) x0 x1 x2 x3 x4 x5 x6 x7 x8 x9 (ix3 g t 0)
    = BitVec.ofNat 32 (Pick.pick (val_main_v189 (F := Ideal) x0 x1 x2 x3 x4 x5 x6 x7 x8 x9) g ⟨t.val, by omega⟩).val := by
  have h1 : val_main_v220 (F := Ideal) x0 x1 x2 x3 x4 x5 x6 x7 x8 x9 (ix3 g t 0) = val_main_v217 (F := Ideal) x0 x1 x2 x3 x4 x5 x6 x7 x8 x9 (ix2 g t) := by
    unfold val_main_v220
    generalize val_main_v217 (F := Ideal) x0 x1 x2 x3 x4 x5 x6 x7 x8 x9 = y
    simp only [pointwise]
    rfl
  have h2 : val_main_v217 (F := Ideal) x0 x1 x2 x3 x4 x5 x6 x7 x8 x9 (ix2 g t) = Scalar.select (IntOp.cmpi .slt (val_main_indices_32 (F := Ideal) x0 x1 x2 x3 x4 x5 x6 x7 x8 x9 (ix2 g t)) 0#32)
      (val_main_v216 (F := Ideal) x0 x1 x2 x3 x4 x5 x6 x7 x8 x9 (ix2 g t)) (val_main_indices_32 (F := Ideal) x0 x1 x2 x3 x4 x5 x6 x7 x8 x9 (ix2 g t)) := by
    rw [val_main_v217_apply, val_main_v214_apply]
    generalize val_main_indices_32 (F := Ideal) x0 x1 x2 x3 x4 x5 x6 x7 x8 x9 = y
    rfl
  have h3 : val_main_indices_32 (F := Ideal) x0 x1 x2 x3 x4 x5 x6 x7 x8 x9 (ix2 g t) = BitVec.ofNat 32 (Pick.pick (val_main_v189 (F := Ideal) x0 x1 x2 x3 x4 x5 x6 x7 x8 x9) g ⟨t.val, by omega⟩).val := by
    unfold val_main_indices_32
    generalize val_main_v189 (F := Ideal) x0 x1 x2 x3 x4 x5 x6 x7 x8 x9 = y
    exact Pick.topK_at y _ g t ⟨t.val, by omega⟩ rfl
  rw [h1, h2]
  exact wrap_word _ _ _ h3 (lt_trans (Fin.isLt _) (by norm_num))

variable {h0 : Fin 10 → Fin 10000 → Fin 128 → EReal} {wl wr wt : Fin 4 → Fin 128 → Fin 128 → EReal} {b : Fin 4 → Fin 128 → EReal}
  (E : Edges (val_main_v1 (F := Ideal) x2) (val_main_v3 (F := Ideal) x2) x3)
  (R : Reals (val_main_v18 (F := Ideal) x0 x1 x4 x5) x6 x7 x8 x9 h0 wl wr wt b)
include E R

/-- All layers' states side by side. -/
theorem v185_at (g : Fin 10) (n : Fin 10000) (c : Fin 128) (l : Fin 4) : val_main_v185 (F := Ideal) x0 x1 x2 x3 x4 x5 x6 x7 x8 x9 (ix3 (node g n) c l) = (layers (h0 g) wl wr wt b l n c : EReal) := by
  have h181 : val_main_v181 (F := Ideal) x0 x1 x2 x3 x4 x5 x6 x7 x8 x9 (ix3 (node g n) c 0) = (layers (h0 g) wl wr wt b 0 n c : EReal) := by
    refine Eq.trans ?_ (v81_at E R g n c)
    unfold val_main_v181
    generalize val_main_v81 (F := Ideal) x0 x1 x2 x3 x4 x5 x6 x7 x8 x9 = y
    simp only [pointwise]
    rfl
  have h182 : val_main_v182 (F := Ideal) x0 x1 x2 x3 x4 x5 x6 x7 x8 x9 (ix3 (node g n) c 0) = (layers (h0 g) wl wr wt b 1 n c : EReal) := by
    refine Eq.trans ?_ (v114_at E R g n c)
    unfold val_main_v182
    generalize val_main_v114 (F := Ideal) x0 x1 x2 x3 x4 x5 x6 x7 x8 x9 = y
    simp only [pointwise]
    rfl
  have h183 : val_main_v183 (F := Ideal) x0 x1 x2 x3 x4 x5 x6 x7 x8 x9 (ix3 (node g n) c 0) = (layers (h0 g) wl wr wt b 2 n c : EReal) := by
    refine Eq.trans ?_ (v147_at E R g n c)
    unfold val_main_v183
    generalize val_main_v147 (F := Ideal) x0 x1 x2 x3 x4 x5 x6 x7 x8 x9 = y
    simp only [pointwise]
    rfl
  have h184 : val_main_v184 (F := Ideal) x0 x1 x2 x3 x4 x5 x6 x7 x8 x9 (ix3 (node g n) c 0) = (layers (h0 g) wl wr wt b 3 n c : EReal) := by
    refine Eq.trans ?_ (v180_at E R g n c)
    unfold val_main_v184
    generalize val_main_v180 (F := Ideal) x0 x1 x2 x3 x4 x5 x6 x7 x8 x9 = y
    simp only [pointwise]
    rfl
  unfold val_main_v185
  generalize val_main_v181 (F := Ideal) x0 x1 x2 x3 x4 x5 x6 x7 x8 x9 = y0 at *
  generalize val_main_v182 (F := Ideal) x0 x1 x2 x3 x4 x5 x6 x7 x8 x9 = y1 at *
  generalize val_main_v183 (F := Ideal) x0 x1 x2 x3 x4 x5 x6 x7 x8 x9 = y2 at *
  generalize val_main_v184 (F := Ideal) x0 x1 x2 x3 x4 x5 x6 x7 x8 x9 = y3 at *
  refine (stack4 ![y0, y1, y2, y3] _ (node g n) c l).trans ?_
  match l with
  | 0 => exact h181
  | 1 => exact h182
  | 2 => exact h183
  | 3 => exact h184

theorem v186_at (g : Fin 10) (n : Fin 10000) (c : Fin 128) (l : Fin 4) : val_main_v186 (F := Ideal) x0 x1 x2 x3 x4 x5 x6 x7 x8 x9 (ix4 g n c l) = (layers (h0 g) wl wr wt b l n c : EReal) := by
  refine Eq.trans ?_ (v185_at E R g n c l)
  unfold val_main_v186
  generalize val_main_v185 (F := Ideal) x0 x1 x2 x3 x4 x5 x6 x7 x8 x9 = y
  refine shapeCast_apply y _ _ _ ?_
  rw [Shape.rowMajor_val_three, Shape.rowMajor_val_four]
  rfl

/-- The norm that ranks a node. -/
theorem v189_at (g : Fin 10) (n : Fin 10000) : val_main_v189 (F := Ideal) x0 x1 x2 x3 x4 x5 x6 x7 x8 x9 (ix2 g n) = (norm2 (fun l => layers (h0 g) wl wr wt b l n) : EReal) := by
  have hY := v186_at E R g n
  unfold val_main_v189 val_main_v188 val_main_v187
  generalize val_main_v186 (F := Ideal) x0 x1 x2 x3 x4 x5 x6 x7 x8 x9 = y at *
  refine (norm_sum rfl y _ _ _ _ g n).trans ?_
  refine (congrArg (· + _) (show _ = (0 : EReal) from Ideal.ofBits_zero_f32)).trans ((zero_add _).trans ?_)
  unfold norm2
  simp only [hY]

/-- The states of the sixteen nodes of greatest norm. -/
theorem v207_at (g : Fin 10) (t : Fin 16) (c : Fin 128) (l : Fin 4) (i : Fin 2048) (hi : i.val = t.val * 128 + c.val) : val_main_v207 (F := Ideal) x0 x1 x2 x3 x4 x5 x6 x7 x8 x9 (ix3 g i l)
    = (layers (h0 g) wl wr wt b l (Pick.pick (val_main_v189 (F := Ideal) x0 x1 x2 x3 x4 x5 x6 x7 x8 x9) g ⟨t.val, by omega⟩) c : EReal) := by
  refine Eq.trans ?_ (v186_at E R g _ c l)
  refine Eq.trans (b := val_main_v206 (F := Ideal) x0 x1 x2 x3 x4 x5 x6 x7 x8 x9 (ix4 g t c l)) ?_ ?_
  · unfold val_main_v207
    generalize val_main_v206 (F := Ideal) x0 x1 x2 x3 x4 x5 x6 x7 x8 x9 = y
    refine shapeCast_apply y _ _ _ ?_
    rw [Shape.rowMajor_val_three, Shape.rowMajor_val_four]
    show ((g.val * 16 + t.val) * 128 + c.val) * 4 + l.val = (g.val * 2048 + i.val) * 4 + l.val
    omega
  · exact Pick.gather_last2 _ rfl rfl rfl rfl rfl rfl rfl _ _ g t c l g _
      ((pair_left _ _ _ g t).trans (gwords_at g t)) ((pair_right _ _ _ g t).trans (rwords_at g t)) (by norm_num) (by norm_num)

/-- The states of the eight nodes of greatest norm: the first eight of the sixteen. -/
theorem v223_at (g : Fin 10) (t : Fin 8) (c : Fin 128) (l : Fin 4) (i : Fin 1024) (hi : i.val = t.val * 128 + c.val) : val_main_v223 (F := Ideal) x0 x1 x2 x3 x4 x5 x6 x7 x8 x9 (ix3 g i l)
    = (layers (h0 g) wl wr wt b l (Pick.pick (val_main_v189 (F := Ideal) x0 x1 x2 x3 x4 x5 x6 x7 x8 x9) g ⟨t.val, by omega⟩) c : EReal) := by
  refine Eq.trans ?_ (v186_at E R g _ c l)
  refine Eq.trans (b := val_main_v222 (F := Ideal) x0 x1 x2 x3 x4 x5 x6 x7 x8 x9 (ix4 g t c l)) ?_ ?_
  · unfold val_main_v223
    generalize val_main_v222 (F := Ideal) x0 x1 x2 x3 x4 x5 x6 x7 x8 x9 = y
    refine shapeCast_apply y _ _ _ ?_
    rw [Shape.rowMajor_val_three, Shape.rowMajor_val_four]
    show ((g.val * 8 + t.val) * 128 + c.val) * 4 + l.val = (g.val * 1024 + i.val) * 4 + l.val
    omega
  · exact Pick.gather_last2 _ rfl rfl rfl rfl rfl rfl rfl _ _ g t c l g _
      ((pair_left _ _ _ g t).trans (gwords8_at g t)) ((pair_right _ _ _ g t).trans (rwords8_at g t)) (by norm_num) (by norm_num)

end Cert.TreeR
-- ==== Proof.RegionArrays.lean ====
/- What each region leaves in its output arrays: the block function of the graph, read at the graph's row. -/
module

public import proofs.«01_k».proof.Proof.Gen.KernelIdeal.Frame
public import Idealize.ShloMosaic.Lib.Pipeline.ValueKit

@[expose] public section
set_option maxRecDepth 16384
noncomputable section
namespace Cert.Regions
open Idealize.ShloMosaic Idealize.ShloMosaic.TcCoe Cert.KernelIdeal Cert.KernelIdeal.Gen

variable (V : (c : Dev nD) → (b : Ref sig .tc) → Buf (Elt Ideal) ((c : Thread nD τ).loc b))

/-- The index maps of the norm region: both windows follow the graph. -/
theorem idx0 : ∀ t : Fin cfg0.N, win0_0.index t = ![t.val, 0, 0] ∧ win0_1.index t = ![t.val, 0, 0] :=
  (by decide +kernel : ∀ t : Fin grid0.N, _)

/-- The norm region's input block at a graph is that graph's rows. -/
theorem norm_block (c : Dev nD) (t : Fin cfg0.N) (g : Fin 10) (hg : g.val = t.val) (n : Fin 10000) (k : Fin 128) :
    (iblk0 V c 0 t : S1x10000x128.Idx → EReal) (ix3 0 n k) = (V c main_v15 : S10x10000x128.Idx → EReal) (ix3 g n k) := by
  blk_ext [iblk0, idx0 t]

/-- What the norm region leaves, at an index. -/
def normG (c : Dev nD) (i : S10x10000x1.Idx) : EReal :=
  out0_1 (iblk0 V c 0 (⟨(i 0).val, (i 0).isLt⟩ : Fin grid0.N)) (ix3 0 ⟨(i 1).val, (i 1).isLt⟩ 0)

/-- The norm region's output array: every graph's rows hold its block. -/
theorem norm_all (c : Dev nD) : (dat0 V c).arrAt 1 cfg0.N = normG V c := by
  refine (dat0 V c).arrAt_eq_of_covers 1 _ (by decide +kernel) fun t _ y => ?_
  blk_simp
  rw [after0_1]
  unfold normG
  refine congrArg₂ (fun t y => out0_1 (iblk0 V c 0 t) y) ?_ ?_
  · refine Fin.ext ?_
    blk_simp [idx0 t]
  · blk_ext [idx0 t]

/-- The index maps of the tree region: the rows follow the graph, the tables and weights stay. -/
theorem idx1 : ∀ t : Fin cfg1.N, win1_0.index t = ![t.val, 0, 0] ∧ win1_1.index t = ![t.val, 0, 0, 0] ∧ win1_2.index t = ![0, 0, 0] ∧ win1_3.index t = ![0, 0, 0] ∧ win1_4.index t = ![0, 0] ∧ win1_5.index t = ![0, 0] ∧ win1_6.index t = ![0, 0, 0] ∧ win1_7.index t = ![0, 0, 0] ∧ win1_8.index t = ![0, 0, 0] ∧ win1_9.index t = ![0, 0, 0] ∧ win1_10.index t = ![t.val, 0, 0] ∧ win1_11.index t = ![t.val, 0, 0, 0] :=
  (by decide +kernel : ∀ t : Fin grid1.N, _)

/-- The index maps of the routing region: the capsules follow the graph, the weights and the constants stay. -/
theorem idx2 : ∀ t : Fin cfg2.N, win2_0.index t = ![t.val, 0, 0] ∧ win2_1.index t = ![0, 0, 0] ∧ win2_2.index t = ![0, 0] ∧ win2_3.index t = ![0, 0] ∧ win2_4.index t = ![0, 0] ∧ win2_5.index t = ![t.val, 0, 0] :=
  (by decide +kernel : ∀ t : Fin grid2.N, _)

/-- The tree region reads the rows of its graph. -/
theorem tree_rows (c : Dev nD) (t : Fin cfg1.N) (g : Fin 10) (hg : g.val = t.val) (p : Fin 632) (q : Fin 128) :
    (iblk1 V c 0 t : S1x632x128.Idx → EReal) (ix3 0 p q) = (V c main_v16 : S10x632x128.Idx → EReal) (ix3 g p q) := by
  blk_ext [iblk1, idx1 t]

/-- The tree region reads the children of its graph. -/
theorem tree_kids (c : Dev nD) (t : Fin cfg1.N) (g : Fin 10) (hg : g.val = t.val) (p : Fin 632) (q : Fin 16) (r : Fin 128) :
    (iblk1 V c 1 t : S1x632x16x128.Idx → EReal) (ix4 0 p q r) = (V c main_v19 : S10x632x16x128.Idx → EReal) (ix4 g p q r) := by
  blk_ext [iblk1, idx1 t]

/-- The left coefficients are read whole. -/
theorem tree_tl (c : Dev nD) (t : Fin cfg1.N) (p : Fin 632) (q : Fin 16) (r : Fin 1) :
    (iblk1 V c 2 t : S632x16x1.Idx → EReal) (ix3 p q r) = (V c main_v40 : S632x16x1.Idx → EReal) (ix3 p q r) := by
  blk_ext [iblk1, idx1 t]

/-- The right coefficients are read whole. -/
theorem tree_tr (c : Dev nD) (t : Fin cfg1.N) (p : Fin 632) (q : Fin 16) (r : Fin 1) :
    (iblk1 V c 3 t : S632x16x1.Idx → EReal) (ix3 p q r) = (V c main_v46 : S632x16x1.Idx → EReal) (ix3 p q r) := by
  blk_ext [iblk1, idx1 t]

/-- The left mixing table is read whole. -/
theorem tree_ml (c : Dev nD) (t : Fin cfg1.N) (p : Fin 48) (q : Fin 632) :
    (iblk1 V c 4 t : S48x632.Idx → EReal) (ix2 p q) = (V c main_v68 : S48x632.Idx → EReal) (ix2 p q) := by
  blk_ext [iblk1, idx1 t]

/-- The right mixing table is read whole. -/
theorem tree_mr (c : Dev nD) (t : Fin cfg1.N) (p : Fin 48) (q : Fin 632) :
    (iblk1 V c 5 t : S48x632.Idx → EReal) (ix2 p q) = (V c main_v71 : S48x632.Idx → EReal) (ix2 p q) := by
  blk_ext [iblk1, idx1 t]

/-- The left weights are read whole. -/
theorem tree_wl (c : Dev nD) (t : Fin cfg1.N) (p : Fin 4) (q : Fin 128) (r : Fin 128) :
    (iblk1 V c 6 t : S4x128x128.Idx → EReal) (ix3 p q r) = (V c main_arg6 : S4x128x128.Idx → EReal) (ix3 p q r) := by
  blk_ext [iblk1, idx1 t]

/-- The right weights are read whole. -/
theorem tree_wr (c : Dev nD) (t : Fin cfg1.N) (p : Fin 4) (q : Fin 128) (r : Fin 128) :
    (iblk1 V c 7 t : S4x128x128.Idx → EReal) (ix3 p q r) = (V c main_arg7 : S4x128x128.Idx → EReal) (ix3 p q r) := by
  blk_ext [iblk1, idx1 t]

/-- The top weights are read whole. -/
theorem tree_wt (c : Dev nD) (t : Fin cfg1.N) (p : Fin 4) (q : Fin 128) (r : Fin 128) :
    (iblk1 V c 8 t : S4x128x128.Idx → EReal) (ix3 p q r) = (V c main_arg8 : S4x128x128.Idx → EReal) (ix3 p q r) := by
  blk_ext [iblk1, idx1 t]

/-- The offsets are read whole. -/
theorem tree_b (c : Dev nD) (t : Fin cfg1.N) (p : Fin 4) (q : Fin 1) (r : Fin 128) :
    (iblk1 V c 9 t : S4x1x128.Idx → EReal) (ix3 p q r) = (V c main_arg9 : S4x1x128.Idx → EReal) (ix3 p q r) := by
  blk_ext [iblk1, idx1 t]

/-- The routing region reads the capsules of its graph. -/
theorem route_u (c : Dev nD) (t : Fin cfg2.N) (g : Fin 10) (hg : g.val = t.val) (p : Fin 4) (q : Fin 2048) :
    (iblk2 V c 0 t : S1x4x2048.Idx → EReal) (ix3 0 p q) = (V c main_v120 : S10x4x2048.Idx → EReal) (ix3 g p q) := by
  blk_ext [iblk2, idx2 t]

/-- The routing weights are read whole. -/
theorem route_w (c : Dev nD) (t : Fin cfg2.N) (p : Fin 4) (q : Fin 1024) (r : Fin 160) :
    (iblk2 V c 1 t : S4x1024x160.Idx → EReal) (ix3 p q r) = (V c main_v124 : S4x1024x160.Idx → EReal) (ix3 p q r) := by
  blk_ext [iblk2, idx2 t]

/-- The group indicator is read whole. -/
theorem route_e (c : Dev nD) (t : Fin cfg2.N) (p : Fin 10) (q : Fin 160) :
    (iblk2 V c 2 t : S10x160.Idx → EReal) (ix2 p q) = (V c main_cst : S10x160.Idx → EReal) (ix2 p q) := by
  blk_ext [iblk2, idx2 t]

/-- The unit matrix is read whole. -/
theorem route_i (c : Dev nD) (t : Fin cfg2.N) (p : Fin 4) (q : Fin 4) :
    (iblk2 V c 3 t : S4x4.Idx → EReal) (ix2 p q) = (V c main_cst_0 : S4x4.Idx → EReal) (ix2 p q) := by
  blk_ext [iblk2, idx2 t]

/-- The lane selector is read whole. -/
theorem route_p (c : Dev nD) (t : Fin cfg2.N) (p : Fin 10) (q : Fin 128) :
    (iblk2 V c 4 t : S10x128.Idx → EReal) (ix2 p q) = (V c main_cst_1 : S10x128.Idx → EReal) (ix2 p q) := by
  blk_ext [iblk2, idx2 t]

/-- What the tree region leaves of the norms, at an index. -/
def tnormG (c : Dev nD) (i : S10x632x1.Idx) : EReal :=
  (fun t : Fin grid1.N => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (⟨(i 0).val, (i 0).isLt⟩ : Fin grid1.N) (ix3 0 ⟨(i 1).val, (i 1).isLt⟩ 0)

/-- What the tree region leaves of the norms: every graph's rows hold its block. -/
theorem tnorm_all (c : Dev nD) : (dat1 V c).arrAt 10 cfg1.N = tnormG V c := by
  refine (dat1 V c).arrAt_eq_of_covers 10 _ (by decide +kernel) fun t _ y => ?_
  blk_simp
  rw [after1_10]
  unfold tnormG
  refine congrArg₂ (fun (t : Fin grid1.N) y => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) y) ?_ ?_
  · refine Fin.ext ?_
    blk_simp [idx1 t]
  · blk_ext [idx1 t]

/-- What the tree region leaves of the features, at an index. -/
def featG (c : Dev nD) (i : S10x4x632x128.Idx) : EReal :=
  (fun t : Fin grid1.N => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (⟨(i 0).val, (i 0).isLt⟩ : Fin grid1.N) (ix4 0 ⟨(i 1).val, (i 1).isLt⟩ ⟨(i 2).val, (i 2).isLt⟩ ⟨(i 3).val, (i 3).isLt⟩)

/-- What the tree region leaves of the features: every graph's rows hold its block. -/
theorem feat_all (c : Dev nD) : (dat1 V c).arrAt 11 cfg1.N = featG V c := by
  refine (dat1 V c).arrAt_eq_of_covers 11 _ (by decide +kernel) fun t _ y => ?_
  blk_simp
  rw [after1_11]
  unfold featG
  refine congrArg₂ (fun (t : Fin grid1.N) y => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) y) ?_ ?_
  · refine Fin.ext ?_
    blk_simp [idx1 t]
  · blk_ext [idx1 t]

/-- What the routing region leaves, at an index. -/
def routeG (c : Dev nD) (i : S10x8x128.Idx) : EReal :=
  (fun t : Fin grid2.N => out2_5 (iblk2 V c 0 t) (iblk2 V c 1 t) (iblk2 V c 2 t) (iblk2 V c 3 t) (iblk2 V c 4 t)) (⟨(i 0).val, (i 0).isLt⟩ : Fin grid2.N) (ix3 0 ⟨(i 1).val, (i 1).isLt⟩ ⟨(i 2).val, (i 2).isLt⟩)

/-- What the routing region leaves: every graph's rows hold its block. -/
theorem route_all (c : Dev nD) : (dat2 V c).arrAt 5 cfg2.N = routeG V c := by
  refine (dat2 V c).arrAt_eq_of_covers 5 _ (by decide +kernel) fun t _ y => ?_
  blk_simp
  rw [after2_5]
  unfold routeG
  refine congrArg₂ (fun (t : Fin grid2.N) y => out2_5 (iblk2 V c 0 t) (iblk2 V c 1 t) (iblk2 V c 2 t) (iblk2 V c 3 t) (iblk2 V c 4 t) y) ?_ ?_
  · refine Fin.ext ?_
    blk_simp [idx2 t]
  · blk_ext [idx2 t]

end Cert.Regions
-- ==== Proof.TreeKernel.lean ====
/- What the tree region's body computes, as functions of vectors, and what they hold at an index. -/
module

public import proofs.«01_k».proof.Proof.Gen.KernelIdeal.Skeleton
public import proofs.«01_k».proof.Proof.TreeSpec
public import Idealize.ShloMosaic.Lib.Pipeline.Value

@[expose] public section
set_option maxRecDepth 16384
noncomputable section
namespace Cert.TreeK
open Idealize.ShloMosaic Cert.KernelIdeal Cert.KernelIdeal.Gen Cert.Tree

/-! ### The steps of the body -/

/-- The sum of the children's initial states under a table of coefficients. -/
def baseT (v0 : Vec Ideal S1x632x16x128 .f32) (v4 : Vec Ideal S632x16x1 .f32) : FVec Ideal S632x128 .f32 :=
  multiReduction .add [1] S632x128
    (mulf (extf .f32 (truncf .bf16 (shapeCast S632x16x128 v0 shapeCasts_S1x632x16x128_S632x16x128) bitsLt_bf16_f32) bitsLt_bf16_f32 : FVec Ideal S632x16x128 .f32)
      (broadcastTo S632x16x128 (shapeCast S632x16x1 v4 shapeCasts_S632x16x1_S632x16x1) broadcasts_S632x16x1_S632x16x128))
    0x00000000#32 reduces_S632x16x128_S632x128 (.inl rfl) rfl

/-- The rows as the matrix unit takes them. -/
def quant (H : FVec Ideal S632x128 .f32) : FVec Ideal S632x128 .f32 := extf .f32 (truncf .bf16 H bitsLt_bf16_f32) bitsLt_bf16_f32

/-- What the kept rows have gained, summed over children. -/
def gainT (m : Vec Ideal S48x632 .f32) (D : FVec Ideal S632x128 .f32) : FVec Ideal S48x128 .f32 :=
  matmul (φ₁ := .f32) (φ₂ := .f32) dot_S48x632_S632x128_S48x128_1_0_0_1_n_n (some .fp32) (shapeCast S48x632 m shapeCasts_S48x632_S48x632) D (constant S48x128 .f32 0x00000000#32)

/-- The sum over children. -/
def sideT (B : FVec Ideal S632x128 .f32) (g : FVec Ideal S48x128 .f32) : FVec Ideal S632x128 .f32 :=
  addf B (concatenate S632x128 0 [⟨S48x128, g⟩, ⟨S584x128, (broadcast S584x128 (Scalar.ofBits .f32 0x00000000#32 : Ideal .f32) : FVec Ideal S584x128 .f32)⟩] concatenates_S48x128_S584x128_S632x128_d0)

/-- A product with one layer's weights. -/
def dotT (X : FVec Ideal S632x128 .f32) (w : Vec Ideal S1x128x128 .f32) : FVec Ideal S632x128 .f32 :=
  matmul dot_S632x128_S128x128_S632x128_1_0_0_1_n_n (some .fp32) X
    (extf .f32 (truncf .bf16 (shapeCast S128x128 w shapeCasts_S1x128x128_S128x128) bitsLt_bf16_f32) bitsLt_bf16_f32 : FVec Ideal S128x128 .f32)
    (constant S632x128 .f32 0x00000000#32)

/-- The new rows from the two sums over children and the rows themselves. -/
def mixT (L R Q : FVec Ideal S632x128 .f32) (wl wr wt : Vec Ideal S1x128x128 .f32) (b : Vec Ideal S1x1x128 .f32) : FVec Ideal S632x128 .f32 :=
  maximumf (addf (addf (addf (dotT L wl) (dotT R wr)) (dotT Q wt))
    (broadcastTo S632x128 (shapeCast S1x128 b shapeCasts_S1x1x128_S1x128) broadcasts_S1x128_S632x128))
    (broadcast S632x128 (Scalar.ofBits .f32 0x00000000#32 : Ideal .f32))

/-- A layer. -/
def layerT (BL BR H0 H : FVec Ideal S632x128 .f32) (ml mr : Vec Ideal S48x632 .f32) (wl wr wt : Vec Ideal S1x128x128 .f32) (b : Vec Ideal S1x1x128 .f32) : FVec Ideal S632x128 .f32 :=
  mixT (sideT BL (gainT ml (subf (quant H) (quant H0)))) (sideT BR (gainT mr (subf (quant H) (quant H0)))) (quant H) wl wr wt b

/-- The rows' sums of squares added to those so far. -/
def squares (A : FVec Ideal S632x1 .f32) (H : FVec Ideal S632x128 .f32) : FVec Ideal S632x1 .f32 :=
  addf A (shapeCast S632x1 (multiReduction .add [1] S632 (mulf H H) 0x00000000#32 reduces_S632x128_S632 (.inl rfl) rfl) shapeCasts_S632_S632x1)

/-! ### What they hold at an index -/

variable {p : Fin 632} {k : Fin 128}

/-- The children's sum, read. -/
theorem baseT_at {v0 : Vec Ideal S1x632x16x128 .f32} {v4 : Vec Ideal S632x16x1 .f32} {a : Fin 632 → Fin 16 → Fin 128 → EReal} {t : Fin 632 → Fin 16 → EReal}
    (h0 : ∀ p j k, v0 (ix4 0 p j k) = (a p j k : EReal)) (h4 : ∀ p j, v4 (ix3 p j 0) = (t p j : EReal)) (p : Fin 632) (k : Fin 128) :
    baseT v0 v4 (ix2 p k) = (∑ j, a p j k * t p j) := by
  pointwise [baseT]
  simp only [h0, h4]

/-- The rounding leaves every element as it is. -/
theorem quant_at (H : FVec Ideal S632x128 .f32) (i : S632x128.Idx) : quant H i = H i := rfl

/-- The gain, read. -/
theorem gainT_at {m : Vec Ideal S48x632 .f32} {D : FVec Ideal S632x128 .f32} {mr : Fin 48 → Fin 632 → EReal} {d : Fin 632 → Fin 128 → EReal}
    (hm : ∀ p q, m (ix2 p q) = (mr p q : EReal)) (hD : ∀ q k, D (ix2 q k) = (d q k : EReal)) (p : Fin 48) (k : Fin 128) :
    gainT m D (ix2 p k) = (∑ q, mr p q * d q k) := by
  pointwise [gainT]
  simp only [hm, hD]

/-- The sum over children, read. -/
theorem sideT_at {B : FVec Ideal S632x128 .f32} {g : FVec Ideal S48x128 .f32} {b : Fin 632 → Fin 128 → EReal} {gr : Fin 48 → Fin 128 → EReal}
    (hB : ∀ p k, B (ix2 p k) = (b p k : EReal)) (hg : ∀ p k, g (ix2 p k) = (gr p k : EReal)) (p : Fin 632) (k : Fin 128) :
    sideT B g (ix2 p k) = (b p k + if hp : p.val < 48 then gr ⟨p.val, hp⟩ k else 0) := by
  unfold sideT
  rw [show ∀ (x y : FVec Ideal S632x128 .f32) i, addf x y i = x i + y i from fun _ _ _ => rfl, hB]
  congr 1
  split
  · rename_i hp
    rw [concatenate_pair_apply_left 0 g _ _ (ix2 p k) rfl (ix2 (⟨p.val, hp⟩ : Fin 48) k) (fun b => by fin_cases b <;> rfl), hg]
  · rename_i hp
    rw [concatenate_pair_apply_right (s₁ := S48x128) (s₂ := S584x128) 0 g _ _ (ix2 p k) rfl rfl (ix2 (⟨p.val - 48, by omega⟩ : Fin 584) k)
      (fun b hb => by fin_cases b <;> first | rfl | exact absurd rfl hb) (by show p.val - 48 + 48 = p.val; omega)]
    exact Ideal.ofBits_zero_f32

/-- A product, read. -/
theorem dotT_at {X : FVec Ideal S632x128 .f32} {w : Vec Ideal S1x128x128 .f32} {x : Fin 632 → Fin 128 → EReal} {wr : Fin 128 → Fin 128 → EReal}
    (hX : ∀ p k, X (ix2 p k) = (x p k : EReal)) (hw : ∀ k c, w (ix3 0 k c) = (wr k c : EReal)) (p : Fin 632) (c : Fin 128) :
    dotT X w (ix2 p c) = (∑ k, x p k * wr k c) := by
  pointwise [dotT]
  simp only [hX, hw]

/-- The new rows, read. -/
theorem mixT_at {L R Q : FVec Ideal S632x128 .f32} {wl wr wt : Vec Ideal S1x128x128 .f32} {b : Vec Ideal S1x1x128 .f32}
    {l r q : Fin 632 → Fin 128 → EReal} {wl' wr' wt' : Fin 128 → Fin 128 → EReal} {b' : Fin 128 → EReal}
    (hL : ∀ p k, L (ix2 p k) = (l p k : EReal)) (hR : ∀ p k, R (ix2 p k) = (r p k : EReal)) (hQ : ∀ p k, Q (ix2 p k) = (q p k : EReal))
    (hl : ∀ k c, wl (ix3 0 k c) = (wl' k c : EReal)) (hr : ∀ k c, wr (ix3 0 k c) = (wr' k c : EReal)) (ht : ∀ k c, wt (ix3 0 k c) = (wt' k c : EReal))
    (hb : ∀ c, b (ix3 0 0 c) = (b' c : EReal)) (p : Fin 632) (c : Fin 128) :
    mixT L R Q wl wr wt b (ix2 p c) = (mix (l p) (r p) (q p) wl' wr' wt' b' c : EReal) := by
  pointwise [mixT]
  rw [dotT_at hL hl, dotT_at hR hr, dotT_at hQ ht, hb]
  simp only [mix]

/-- A layer, read. -/
theorem layerT_at {BL BR H0 H : FVec Ideal S632x128 .f32} {ml mr : Vec Ideal S48x632 .f32} {wl wr wt : Vec Ideal S1x128x128 .f32} {b : Vec Ideal S1x1x128 .f32}
    {bl br h0 h : Fin 632 → Fin 128 → EReal} {ml' mr' : Fin 48 → Fin 632 → EReal} {wl' wr' wt' : Fin 128 → Fin 128 → EReal} {b' : Fin 128 → EReal}
    (hBL : ∀ p k, BL (ix2 p k) = (bl p k : EReal)) (hBR : ∀ p k, BR (ix2 p k) = (br p k : EReal))
    (hH0 : ∀ p k, H0 (ix2 p k) = (h0 p k : EReal)) (hH : ∀ p k, H (ix2 p k) = (h p k : EReal))
    (hml : ∀ p q, ml (ix2 p q) = (ml' p q : EReal)) (hmr : ∀ p q, mr (ix2 p q) = (mr' p q : EReal))
    (hl : ∀ k c, wl (ix3 0 k c) = (wl' k c : EReal)) (hr : ∀ k c, wr (ix3 0 k c) = (wr' k c : EReal)) (ht : ∀ k c, wt (ix3 0 k c) = (wt' k c : EReal))
    (hb : ∀ c, b (ix3 0 0 c) = (b' c : EReal)) (p : Fin 632) (c : Fin 128) :
    layerT BL BR H0 H ml mr wl wr wt b (ix2 p c) = (stepK bl br ml' mr' h0 h wl' wr' wt' b' p c : EReal) := by
  have hD : ∀ q k, subf (quant H) (quant H0) (ix2 q k) = (h q k - h0 q k) := fun q k => by
    rw [← hH, ← hH0]; rfl
  exact mixT_at (sideT_at hBL (gainT_at hml hD)) (sideT_at hBR (gainT_at hmr hD)) hH hl hr ht hb p c

/-- The sums of squares, read. -/
theorem squares_at {A : FVec Ideal S632x1 .f32} {H : FVec Ideal S632x128 .f32} {a : Fin 632 → EReal} {h : Fin 632 → Fin 128 → EReal}
    (hA : ∀ p, A (ix2 p 0) = (a p : EReal)) (hH : ∀ p k, H (ix2 p k) = (h p k : EReal)) (p : Fin 632) :
    squares A H (ix2 p 0) = (a p + ∑ c, h p c * h p c) := by
  pointwise [squares]
  simp only [hA, hH]

end Cert.TreeK
-- ==== Proof.TreeBlock.lean ====
/- What the tree region and the norm region write of their blocks. -/
module

public import proofs.«01_k».proof.Proof.Gen.KernelIdeal.Frame
public import proofs.«01_k».proof.Proof.TreeKernel
public import Idealize.ShloMosaic.Lib.Pipeline.ValueKit

@[expose] public section
set_option maxRecDepth 16384
noncomputable section
namespace Cert.TreeK
open Idealize.ShloMosaic Cert.KernelIdeal Cert.KernelIdeal.Gen Cert.Tree

/-- The literal four. -/
theorem four : Ideal.ofBits .f32 0x40800000#32 = ((4 : ℝ) : EReal) := by
  simp [Ideal.ofBits, Ideal.ieee, -EReal.coe_mul]; norm_num

/-- Where a layer's slab of the features lies in the block. -/
theorem slab_emb {α : Type} (f : Fin 4 → Fin 632 → Fin 128 → α) (l : Fin 4) (inb) (x : S1x1x632x128.Idx) (y : S1x4x632x128.Idx)
    (hy : y = (Rect.unit (s := S1x4x632x128) ![0, l.val, 0, 0] S1x1x632x128.size inb).emb x) : f l (x 2) (x 3) = f (y 1) (y 2) (y 3) := by
  have k : ∀ a, (y a).val = (![0, l.val, 0, 0] : Fin 4 → ℕ) a + (x a).val := fun a => by
    rw [hy]; exact Rect.idx_unit_val (![0, l.val, 0, 0] : Fin 4 → ℕ) _ inb x a
  have h1 : (y 1) = l := Fin.ext ((k 1).trans (by have : (x 1).val = 0 := by exact Nat.lt_one_iff.mp (show (x 1).val < 1 from (x 1).isLt)
                                                  simp [this]))
  have h2 : (y 2) = x 2 := Fin.ext ((k 2).trans (by simp))
  have h3 : (y 3) = x 3 := Fin.ext ((k 3).trans (by simp))
  rw [h1, h2, h3]

/-- The norm region's block: four times the sum of a row's squares. -/
theorem out0_1_at (x0 : Vec Ideal S1x10000x128 .f32) (h : Fin 10000 → Fin 128 → EReal) (h0 : ∀ n c, x0 (ix3 0 n c) = (h n c : EReal)) (n : Fin 10000) :
    out0_1 x0 (ix3 0 n 0) = ((4 : ℝ) : EReal) * ∑ c, h n c * h n c := by
  have e0 : View.ld x0 r0_0 = x0 := View.ld_unit_lit _ _ (by decide)
  rw [out0_1, View.canon_unit_zero (by decide), e0]
  pointwise [k0_pay1]
  simp only [h0]
  rw [four]

/-- One layer's slab of a stack of four matrices. -/
theorem ld_slab (x : Vec Ideal S4x128x128 .f32) (w : Fin 4 → Fin 128 → Fin 128 → EReal) (hx : ∀ l k c, x (ix3 l k c) = (w l k c : EReal))
    (l : Fin 4) (inb) (k c : Fin 128) :
    View.ld x (Rect.unit (s := S4x128x128) ![l.val, 0, 0] S1x128x128.size inb) (ix3 0 k c) = (w l k c : EReal) := by
  rw [← hx]
  exact View.ld_unit_apply_of _ _ _ _ _ _ fun a => by fin_cases a <;> simp [ix3]

/-- One layer's row of a stack of four rows. -/
theorem ld_row (x : Vec Ideal S4x1x128 .f32) (b : Fin 4 → Fin 128 → EReal) (hx : ∀ l c, x (ix3 l 0 c) = (b l c : EReal))
    (l : Fin 4) (inb) (c : Fin 128) :
    View.ld x (Rect.unit (s := S4x1x128) ![l.val, 0, 0] S1x1x128.size inb) (ix3 0 0 c) = (b l c : EReal) := by
  rw [← hx]
  exact View.ld_unit_apply_of _ _ _ _ _ _ fun a => by fin_cases a <;> simp [ix3]

section
variable (x0 : Vec Ideal S1x632x128 .f32) (x1 : Vec Ideal S1x632x16x128 .f32) (x2 x3 : Vec Ideal S632x16x1 .f32)
  (x4 x5 : Vec Ideal S48x632 .f32) (x6 x7 x8 : Vec Ideal S4x128x128 .f32) (x9 : Vec Ideal S4x1x128 .f32)

/-- The rows the body starts from. -/
def row0 : FVec Ideal S632x128 .f32 := shapeCast S632x128 x0 shapeCasts_S1x632x128_S632x128
/-- The rows after the first layer. -/
def row1 : FVec Ideal S632x128 .f32 := layerT (baseT x1 x2) (baseT x1 x3) (row0 x0) (row0 x0) x4 x5 (View.ld x6 r1_4) (View.ld x7 r1_4) (View.ld x8 r1_4) (View.ld x9 r1_5)
/-- The rows after the second layer. -/
def row2 : FVec Ideal S632x128 .f32 := layerT (baseT x1 x2) (baseT x1 x3) (row0 x0) (row1 x0 x1 x2 x3 x4 x5 x6 x7 x8 x9) x4 x5 (View.ld x6 r1_7) (View.ld x7 r1_7) (View.ld x8 r1_7) (View.ld x9 r1_8)
/-- The rows after the third layer. -/
def row3 : FVec Ideal S632x128 .f32 := layerT (baseT x1 x2) (baseT x1 x3) (row0 x0) (row2 x0 x1 x2 x3 x4 x5 x6 x7 x8 x9) x4 x5 (View.ld x6 r1_10) (View.ld x7 r1_10) (View.ld x8 r1_10) (View.ld x9 r1_11)
/-- The rows after the fourth layer. -/
def row4 : FVec Ideal S632x128 .f32 := layerT (baseT x1 x2) (baseT x1 x3) (row0 x0) (row3 x0 x1 x2 x3 x4 x5 x6 x7 x8 x9) x4 x5 (View.ld x6 r1_13) (View.ld x7 r1_13) (View.ld x8 r1_13) (View.ld x9 r1_14)

variable (e0 : View.ld x0 r1_2 = x0) (e1 : View.ld x1 r1_0 = x1) (e2 : View.ld x2 r1_1 = x2) (e3 : View.ld x3 r1_1 = x3)
  (e4 : View.ld x4 r1_3 = x4) (e5 : View.ld x5 r1_3 = x5)

include e0 e1 e2 e3 e4 e5 in
/-- The first layer's printed value. -/
theorem pay14_eq : k1_pay14 (k1_pay30 x0 x1 x2 x3 x4 x5 x6 x7 x8 x9) (k1_pay32 x0 x1 x2 x3 x4 x5 x6 x7 x8 x9) (k1_pay33 x0 x1 x2 x3 x4 x5 x6 x7 x8 x9)
    (k1_pay34 x0 x1 x2 x3 x4 x5 x6 x7 x8 x9) (k1_pay35 x0 x1 x2 x3 x4 x5 x6 x7 x8 x9) (View.ld x6 r1_4) (View.ld x7 r1_4) (View.ld x8 r1_4) (View.ld x9 r1_5)
    = row1 x0 x1 x2 x3 x4 x5 x6 x7 x8 x9 := by
  rw [k1_pay30, k1_pay32, k1_pay33, k1_pay34, k1_pay35, e0, e1, e2, e3, e4, e5]
  rfl

include e0 e1 e2 e3 e4 e5 in
/-- The second layer's printed value. -/
theorem pay38_eq : k1_pay38 x0 x1 x2 x3 x4 x5 x6 x7 x8 x9 = row2 x0 x1 x2 x3 x4 x5 x6 x7 x8 x9 := by
  rw [k1_pay38, k1_pay36, k1_pay37, k1_pay17, k1_pay18, k1_pay17, pay14_eq x0 x1 x2 x3 x4 x5 x6 x7 x8 x9 e0 e1 e2 e3 e4 e5,
    k1_pay29, k1_pay30, k1_pay31, k1_pay32, e0, e1, e2, e3, e4, e5]
  rfl

include e0 e1 e2 e3 e4 e5 in
/-- The third layer's printed value. -/
theorem pay39_eq : k1_pay23 (k1_pay39 x0 x1 x2 x3 x4 x5 x6 x7 x8 x9) = row3 x0 x1 x2 x3 x4 x5 x6 x7 x8 x9 := by
  rw [k1_pay39, pay38_eq x0 x1 x2 x3 x4 x5 x6 x7 x8 x9 e0 e1 e2 e3 e4 e5,
    k1_pay29, k1_pay30, k1_pay31, k1_pay32, e1, e2, e3, e4, e5, e0]
  rfl

include e0 e1 e2 e3 e4 e5 in
/-- The fourth layer's printed value. -/
theorem pay1_eq : k1_pay1 (k1_pay40 x0 x1 x2 x3 x4 x5 x6 x7 x8 x9) (k1_pay41 x0 x1 x2 x3 x4 x5 x6 x7 x8 x9) (k1_pay42 x0 x1 x2 x3 x4 x5 x6 x7 x8 x9) (View.ld x9 r1_14)
    = row4 x0 x1 x2 x3 x4 x5 x6 x7 x8 x9 := by
  rw [k1_pay40, k1_pay41, k1_pay42, k1_pay27, k1_pay26, pay39_eq x0 x1 x2 x3 x4 x5 x6 x7 x8 x9 e0 e1 e2 e3 e4 e5,
    k1_pay29, k1_pay30, k1_pay31, k1_pay32, e1, e2, e3, e4, e5, e0]
  rfl

variable {a : Fin 632 → Fin 16 → Fin 128 → EReal} {tl tr : Fin 632 → Fin 16 → EReal} {h0 : Fin 632 → Fin 128 → EReal} {ml mr : Fin 48 → Fin 632 → EReal}
  {wl wr wt : Fin 4 → Fin 128 → Fin 128 → EReal} {b : Fin 4 → Fin 128 → EReal}
  (h0' : ∀ p k, x0 (ix3 0 p k) = (h0 p k : EReal)) (h1 : ∀ p j k, x1 (ix4 0 p j k) = (a p j k : EReal))
  (h2 : ∀ p j, x2 (ix3 p j 0) = (tl p j : EReal)) (h3 : ∀ p j, x3 (ix3 p j 0) = (tr p j : EReal))
  (h4 : ∀ p q, x4 (ix2 p q) = (ml p q : EReal)) (h5 : ∀ p q, x5 (ix2 p q) = (mr p q : EReal))
  (h6 : ∀ l k c, x6 (ix3 l k c) = (wl l k c : EReal)) (h7 : ∀ l k c, x7 (ix3 l k c) = (wr l k c : EReal))
  (h8 : ∀ l k c, x8 (ix3 l k c) = (wt l k c : EReal)) (h9 : ∀ l c, x9 (ix3 l 0 c) = (b l c : EReal))

/-- The rows the kernel keeps, after a layer, from what its blocks hold. -/
abbrev rowsOf (a : Fin 632 → Fin 16 → Fin 128 → EReal) (tl tr : Fin 632 → Fin 16 → EReal) (h0 : Fin 632 → Fin 128 → EReal) (ml mr : Fin 48 → Fin 632 → EReal)
    (wl wr wt : Fin 4 → Fin 128 → Fin 128 → EReal) (b : Fin 4 → Fin 128 → EReal) : Fin 4 → Fin 632 → Fin 128 → EReal :=
  rows (fun p k => ∑ j, a p j k * tl p j) (fun p k => ∑ j, a p j k * tr p j) ml mr h0 wl wr wt b

include h0' in
/-- The rows at the start, read. -/
theorem row0_at (p : Fin 632) (k : Fin 128) : row0 x0 (ix2 p k) = (h0 p k : EReal) := by pointwise [row0]; exact h0' p k

include h0' h1 h2 h3 h4 h5 h6 h7 h8 h9 in
/-- The rows after the first layer, read. -/
theorem row1_at (p : Fin 632) (k : Fin 128) : row1 x0 x1 x2 x3 x4 x5 x6 x7 x8 x9 (ix2 p k) = (rowsOf a tl tr h0 ml mr wl wr wt b 0 p k : EReal) :=
  layerT_at (baseT_at h1 h2) (baseT_at h1 h3) (row0_at x0 h0') (row0_at x0 h0') h4 h5 (ld_slab x6 wl h6 0 _) (ld_slab x7 wr h7 0 _)
    (ld_slab x8 wt h8 0 _) (ld_row x9 b h9 0 _) p k

include h0' h1 h2 h3 h4 h5 h6 h7 h8 h9 in
/-- The rows after the second layer, read. -/
theorem row2_at (p : Fin 632) (k : Fin 128) : row2 x0 x1 x2 x3 x4 x5 x6 x7 x8 x9 (ix2 p k) = (rowsOf a tl tr h0 ml mr wl wr wt b 1 p k : EReal) :=
  layerT_at (baseT_at h1 h2) (baseT_at h1 h3) (row0_at x0 h0') (row1_at x0 x1 x2 x3 x4 x5 x6 x7 x8 x9 h0' h1 h2 h3 h4 h5 h6 h7 h8 h9) h4 h5 (ld_slab x6 wl h6 1 _) (ld_slab x7 wr h7 1 _)
    (ld_slab x8 wt h8 1 _) (ld_row x9 b h9 1 _) p k

include h0' h1 h2 h3 h4 h5 h6 h7 h8 h9 in
/-- The rows after the third layer, read. -/
theorem row3_at (p : Fin 632) (k : Fin 128) : row3 x0 x1 x2 x3 x4 x5 x6 x7 x8 x9 (ix2 p k) = (rowsOf a tl tr h0 ml mr wl wr wt b 2 p k : EReal) :=
  layerT_at (baseT_at h1 h2) (baseT_at h1 h3) (row0_at x0 h0') (row2_at x0 x1 x2 x3 x4 x5 x6 x7 x8 x9 h0' h1 h2 h3 h4 h5 h6 h7 h8 h9) h4 h5 (ld_slab x6 wl h6 2 _) (ld_slab x7 wr h7 2 _)
    (ld_slab x8 wt h8 2 _) (ld_row x9 b h9 2 _) p k

include h0' h1 h2 h3 h4 h5 h6 h7 h8 h9 in
/-- The rows after the fourth layer, read. -/
theorem row4_at (p : Fin 632) (k : Fin 128) : row4 x0 x1 x2 x3 x4 x5 x6 x7 x8 x9 (ix2 p k) = (rowsOf a tl tr h0 ml mr wl wr wt b 3 p k : EReal) :=
  layerT_at (baseT_at h1 h2) (baseT_at h1 h3) (row0_at x0 h0') (row3_at x0 x1 x2 x3 x4 x5 x6 x7 x8 x9 h0' h1 h2 h3 h4 h5 h6 h7 h8 h9) h4 h5 (ld_slab x6 wl h6 3 _) (ld_slab x7 wr h7 3 _)
    (ld_slab x8 wt h8 3 _) (ld_row x9 b h9 3 _) p k

include h0' h1 h2 h3 h4 h5 h6 h7 h8 h9 in
/-- The tree region's first output: the sum over the layers of each kept row's squares. -/
theorem out1_10_at (p : Fin 632) :
    out1_10 x0 x1 x2 x3 x4 x5 x6 x7 x8 x9 (ix3 0 p 0) = (norm2 (fun l => rowsOf a tl tr h0 ml mr wl wr wt b l p) : EReal) := by
  have e0 : View.ld x0 r1_2 = x0 := View.ld_unit_lit _ _ (by decide)
  have e1 : View.ld x1 r1_0 = x1 := View.ld_unit_lit _ _ (by decide)
  have e2 : View.ld x2 r1_1 = x2 := View.ld_unit_lit _ _ (by decide)
  have e3 : View.ld x3 r1_1 = x3 := View.ld_unit_lit _ _ (by decide)
  have e4 : View.ld x4 r1_3 = x4 := View.ld_unit_lit _ _ (by decide)
  have e5 : View.ld x5 r1_3 = x5 := View.ld_unit_lit _ _ (by decide)
  rw [out1_10, View.canon_unit_zero (by decide)]
  have s0 : ∀ p, (k1_pay9 : FVec Ideal S632x1 .f32) (ix2 p 0) = (0 : EReal) := fun p => Ideal.ofBits_zero_f32
  have s1 := squares_at s0 (row1_at x0 x1 x2 x3 x4 x5 x6 x7 x8 x9 h0' h1 h2 h3 h4 h5 h6 h7 h8 h9)
  have s2 := squares_at s1 (row2_at x0 x1 x2 x3 x4 x5 x6 x7 x8 x9 h0' h1 h2 h3 h4 h5 h6 h7 h8 h9)
  have s3 := squares_at s2 (row3_at x0 x1 x2 x3 x4 x5 x6 x7 x8 x9 h0' h1 h2 h3 h4 h5 h6 h7 h8 h9)
  have s4 := squares_at s3 (row4_at x0 x1 x2 x3 x4 x5 x6 x7 x8 x9 h0' h1 h2 h3 h4 h5 h6 h7 h8 h9)
  have q := pay38_eq x0 x1 x2 x3 x4 x5 x6 x7 x8 x9 e0 e1 e2 e3 e4 e5
  rw [k1_pay3, k1_pay25, k1_pay21, k1_pay16, pay14_eq x0 x1 x2 x3 x4 x5 x6 x7 x8 x9 e0 e1 e2 e3 e4 e5,
    pay39_eq x0 x1 x2 x3 x4 x5 x6 x7 x8 x9 e0 e1 e2 e3 e4 e5, pay1_eq x0 x1 x2 x3 x4 x5 x6 x7 x8 x9 e0 e1 e2 e3 e4 e5, q]
  have r : ∀ (S : FVec Ideal S632x1 .f32), shapeCast S1x632x1 S shapeCasts_S632x1_S1x632x1 (ix3 0 p 0) = S (ix2 p 0) := fun S => by pointwise
  refine (r _).trans ((s4 p).trans ?_)
  rw [norm2, Fin.sum_univ_four, zero_add]

include h0' h1 h2 h3 h4 h5 h6 h7 h8 h9 in
/-- The tree region's second output: the kept rows after each layer. -/
theorem out1_11_at (l : Fin 4) (p : Fin 632) (k : Fin 128) :
    out1_11 x0 x1 x2 x3 x4 x5 x6 x7 x8 x9 (ix4 0 l p k) = (rowsOf a tl tr h0 ml mr wl wr wt b l p k : EReal) := by
  have e0 : View.ld x0 r1_2 = x0 := View.ld_unit_lit _ _ (by decide)
  have e1 : View.ld x1 r1_0 = x1 := View.ld_unit_lit _ _ (by decide)
  have e2 : View.ld x2 r1_1 = x2 := View.ld_unit_lit _ _ (by decide)
  have e3 : View.ld x3 r1_1 = x3 := View.ld_unit_lit _ _ (by decide)
  have e4 : View.ld x4 r1_3 = x4 := View.ld_unit_lit _ _ (by decide)
  have e5 : View.ld x5 r1_3 = x5 := View.ld_unit_lit _ _ (by decide)
  have r : ∀ (S : FVec Ideal S632x128 .f32) (x : S1x1x632x128.Idx), shapeCast S1x1x632x128 S shapeCasts_S632x128_S1x1x632x128 x = S (ix2 (x 2) (x 3)) := fun S x => by
    rw [eq_ix4 x]; pointwise
  have q := pay38_eq x0 x1 x2 x3 x4 x5 x6 x7 x8 x9 e0 e1 e2 e3 e4 e5
  rw [k1_pay38] at q
  rw [out1_11, k1_pay2, k1_pay24, k1_pay20, k1_pay15, pay14_eq x0 x1 x2 x3 x4 x5 x6 x7 x8 x9 e0 e1 e2 e3 e4 e5, q,
    pay39_eq x0 x1 x2 x3 x4 x5 x6 x7 x8 x9 e0 e1 e2 e3 e4 e5, pay1_eq x0 x1 x2 x3 x4 x5 x6 x7 x8 x9 e0 e1 e2 e3 e4 e5]
  refine (View.canon_apply_of_pieces (Val := Elt Ideal) (e := .f32) (fun y : S1x4x632x128.Idx => (rowsOf a tl tr h0 ml mr wl wr wt b (y 1) (y 2) (y 3) : EReal)) _ ?_ (ix4 0 l p k) (cover1_11 _ _ _ _ _))
  intro P hP x
  simp only [List.mem_cons, List.not_mem_nil, or_false] at hP
  rcases hP with rfl | rfl | rfl | rfl
  · refine (r _ x).trans ((row4_at x0 x1 x2 x3 x4 x5 x6 x7 x8 x9 h0' h1 h2 h3 h4 h5 h6 h7 h8 h9 _ _).trans ?_)
    exact slab_emb (fun l p k => (rowsOf a tl tr h0 ml mr wl wr wt b l p k : EReal)) 3 inb_S1x4x632x128_S1x1x632x128_0_3_0_0 x _ rfl
  · refine (r _ x).trans ((row3_at x0 x1 x2 x3 x4 x5 x6 x7 x8 x9 h0' h1 h2 h3 h4 h5 h6 h7 h8 h9 _ _).trans ?_)
    exact slab_emb (fun l p k => (rowsOf a tl tr h0 ml mr wl wr wt b l p k : EReal)) 2 inb_S1x4x632x128_S1x1x632x128_0_2_0_0 x _ rfl
  · refine (r _ x).trans ((row2_at x0 x1 x2 x3 x4 x5 x6 x7 x8 x9 h0' h1 h2 h3 h4 h5 h6 h7 h8 h9 _ _).trans ?_)
    exact slab_emb (fun l p k => (rowsOf a tl tr h0 ml mr wl wr wt b l p k : EReal)) 1 inb_S1x4x632x128_S1x1x632x128_0_1_0_0 x _ rfl
  · refine (r _ x).trans ((row1_at x0 x1 x2 x3 x4 x5 x6 x7 x8 x9 h0' h1 h2 h3 h4 h5 h6 h7 h8 h9 _ _).trans ?_)
    exact slab_emb (fun l p k => (rowsOf a tl tr h0 ml mr wl wr wt b l p k : EReal)) 0 inb_S1x4x632x128_S1x1x632x128_0_0_0_0 x _ rfl
end
end Cert.TreeK
-- ==== Proof.RouteKernel.lean ====
/- What the routing region's body computes of its blocks: the payload of its store, read at an index, is `Cert.Route.route`. -/
module

public import proofs.«01_k».proof.Proof.Gen.KernelIdeal.Skeleton
public import proofs.«01_k».proof.Proof.RouteSpec

@[expose] public section
set_option maxRecDepth 16384
noncomputable section
namespace Cert.RouteK
open Idealize.ShloMosaic Cert.KernelIdeal Cert.KernelIdeal.Gen

/-! ### The steps of the body, as functions of vectors -/

/-- A round's agreements added to those so far. -/
def alphaStep (A : FVec Ideal S2048x1024 .f32) (U : FVec Ideal S4x2048 .bf16) (V : FVec Ideal S4x1024 .bf16) : FVec Ideal S2048x1024 .f32 :=
  addf A (matmul dot_S4x2048_S4x1024_S2048x1024_0_0_1_1_n_n none U V (constant S2048x1024 .f32 0x00000000#32))

/-- The softmax over the upper capsules. -/
def softStep (A : FVec Ideal S2048x1024 .f32) : FVec Ideal S2048x1024 .f32 :=
  have v7 : FVec Ideal S2048 .f32 := multiReduction .maximumf [1] S2048 A 0xFF800000#32 reduces_S2048x1024_S2048 (.inl rfl) rfl
  have v11 := exp (subf A (broadcastTo S2048x1024 (shapeCast S2048x1 v7 shapeCasts_S2048_S2048x1) broadcasts_S2048x1_S2048x1024))
  have v12 : FVec Ideal S2048 .f32 := multiReduction .add [1] S2048 v11 0x00000000#32 reduces_S2048x1024_S2048 (.inl rfl) rfl
  divf v11 (broadcastTo S2048x1024 (shapeCast S2048x1 v12 shapeCasts_S2048_S2048x1) broadcasts_S2048x1_S2048x1024)

/-- The upper capsules as weighted sums. -/
def voteStep (U : FVec Ideal S4x2048 .bf16) (B : FVec Ideal S2048x1024 .f32) : FVec Ideal S4x1024 .f32 :=
  matmul dot_S4x2048_S2048x1024_S4x1024_1_0_0_1_n_n none U (truncf .bf16 B bitsLt_bf16_f32) (constant S4x1024 .f32 0x00000000#32)

/-- Squashing, and the turn through the identity matrix. -/
def squashStep (v45 : FVec Ideal S4x1024 .f32) (v60 : FVec Ideal S4x4 .f32) : FVec Ideal S1024x4 .f32 :=
  have v46 : FVec Ideal S4x1024 .f32 := mulf v45 v45
  have v47 : FVec Ideal S1024 .f32 := multiReduction .add [0] S1024 v46 0x00000000#32 reduces_S4x1024_S1024 (.inl rfl) rfl
  have v48 : FVec Ideal S1x1024 .f32 := shapeCast S1x1024 v47 shapeCasts_S1024_S1x1024
  have v51 : FVec Ideal S1x1024 .f32 := divf v48 (addf (broadcast S1x1024 (Scalar.ofBits .f32 0x3F800000#32 : Ideal .f32)) v48)
  have v54 : FVec Ideal S1x1024 .f32 := sqrt (addf v48 (broadcast S1x1024 (Scalar.ofBits .f32 0x2EDBE6FF#32 : Ideal .f32)))
  have v57 : FVec Ideal S1x1024 .f32 := divf v51 (addf v54 (broadcast S1x1024 (Scalar.ofBits .f32 0x322BCC77#32 : Ideal .f32)))
  have v59 : FVec Ideal S4x1024 .f32 := mulf v45 (broadcastTo S4x1024 v57 broadcasts_S1x1024_S4x1024)
  matmul dot_S4x1024_S4x4_S1024x4_0_0_1_1_n_n (some .fp32) v59 v60 (constant S1024x4 .f32 0x00000000#32)

/-- The softmax over the classes. -/
def softC (D : FVec Ideal S1024x10 .f32) : FVec Ideal S1024x10 .f32 :=
  have v92 : FVec Ideal S1024 .f32 := multiReduction .maximumf [1] S1024 D 0xFF800000#32 reduces_S1024x10_S1024 (.inl rfl) rfl
  have v96 := exp (subf D (broadcastTo S1024x10 (shapeCast S1024x1 v92 shapeCasts_S1024_S1024x1) broadcasts_S1024x1_S1024x10))
  have v97 : FVec Ideal S1024 .f32 := multiReduction .add [1] S1024 v96 0x00000000#32 reduces_S1024x10_S1024 (.inl rfl) rfl
  divf v96 (broadcastTo S1024x10 (shapeCast S1024x1 v97 shapeCasts_S1024_S1024x1) broadcasts_S1024x1_S1024x10)

/-- The class capsules before squashing, one row of 160. -/
def capsStep (G : FVec Ideal S1024x10 .f32) (E : FVec Ideal S10x160 .f32) (M : FVec Ideal S1024x160 .f32) : FVec Ideal S1x160 .f32 :=
  have v104 : FVec Ideal S1024x160 .f32 := matmul dot_S1024x10_S10x160_S1024x160_1_0_0_1_n_n none (truncf .bf16 G bitsLt_bf16_f32)
    (truncf .bf16 E bitsLt_bf16_f32) (constant S1024x160 .f32 0x00000000#32)
  have v106 : FVec Ideal S160 .f32 := multiReduction .add [0] S160 (mulf v104 M) 0x00000000#32 reduces_S1024x160_S160 (.inl rfl) rfl
  shapeCast S1x160 v106 shapeCasts_S160_S1x160

/-- The class capsules squashed. -/
def squashC (v107 : FVec Ideal S1x160 .f32) (E : FVec Ideal S10x160 .f32) : FVec Ideal S1x160 .f32 :=
  have v110 : FVec Ideal S1x10 .f32 := matmul dot_S1x160_S10x160_S1x10_1_1_0_0_n_n (some .fp32) (mulf v107 v107) E (constant S1x10 .f32 0x00000000#32)
  have v112 : FVec Ideal S1x160 .f32 := matmul dot_S1x10_S10x160_S1x160_1_0_0_1_n_n (some .fp32) v110 E (constant S1x160 .f32 0x00000000#32)
  have v115 : FVec Ideal S1x160 .f32 := divf v112 (addf (broadcast S1x160 (Scalar.ofBits .f32 0x3F800000#32 : Ideal .f32)) v112)
  have v118 : FVec Ideal S1x160 .f32 := sqrt (addf v112 (broadcast S1x160 (Scalar.ofBits .f32 0x2EDBE6FF#32 : Ideal .f32)))
  have v121 : FVec Ideal S1x160 .f32 := divf v115 (addf v118 (broadcast S1x160 (Scalar.ofBits .f32 0x322BCC77#32 : Ideal .f32)))
  mulf v107 v121

/-- The predictions times the class capsules. -/
def prodC (M : FVec Ideal S1024x160 .f32) (z : FVec Ideal S1x160 .f32) : FVec Ideal S1024x160 .f32 :=
  mulf M (broadcastTo S1024x160 (extf .f32 (truncf .bf16 z bitsLt_bf16_f32) bitsLt_bf16_f32) broadcasts_S1x160_S1024x160)

/-- A round's class agreements added to those so far. -/
def raiseC (D : FVec Ideal S1024x10 .f32) (P : FVec Ideal S1024x160 .f32) (E : FVec Ideal S10x160 .f32) : FVec Ideal S1024x10 .f32 :=
  addf D (matmul dot_S1024x160_S10x160_S1024x10_1_1_0_0_n_n (some .fp32) P E (constant S1024x10 .f32 0x00000000#32))

/-- The class capsules' lengths. -/
def lengthC (z : FVec Ideal S1x160 .f32) (E : FVec Ideal S10x160 .f32) : FVec Ideal S1x10 .f32 :=
  sqrt (addf (matmul dot_S1x160_S10x160_S1x10_1_1_0_0_n_n (some .fp32) (mulf z z) E (constant S1x10 .f32 0x00000000#32))
    (broadcast S1x10 (Scalar.ofBits .f32 0x2EDBE6FF#32 : Ideal .f32)))

/-! ### The printed payloads are those steps -/

/-- The weights of the third round. -/
theorem pay3_eq (v0 : Vec Ideal S1x4x2048 .f32) : k2_pay3 v0 =
   (let U := k2_pay2 v0
    let A1 := alphaStep (broadcast S2048x1024 (Scalar.ofBits .f32 0x00000000#32 : Ideal .f32)) U (extractStridedSlice S4x1024 ![0, 0] U slices_S4x2048_o0_0_S4x1024)
    let A2 := alphaStep A1 U (truncf .bf16 (voteStep U (softStep A1)) bitsLt_bf16_f32)
    let A3 := alphaStep A2 U (truncf .bf16 (voteStep U (softStep A2)) bitsLt_bf16_f32)
    softStep A3) := rfl

/-- The squashed upper capsules. -/
theorem pay4_eq (U : FVec Ideal S4x2048 .bf16) (B : FVec Ideal S2048x1024 .f32) (I : Vec Ideal S4x4 .f32) :
    k2_pay4 U B I = squashStep (voteStep U B) I := rfl

/-- The first round's products. -/
theorem pay8_eq (v63 : FVec Ideal S1024x4 .f32) (v82 : FVec Ideal S1024x160 .f32) (v83 : Vec Ideal S1x1024x160 .f32) (E : Vec Ideal S10x160 .f32) :
    k2_pay8 v63 v82 v83 E E E = prodC (k2_pay6 v63 v82 v83) (squashC (capsStep (softC k2_pay7) E (k2_pay6 v63 v82 v83)) E) := rfl

/-- The first round's agreements. -/
theorem pay9_eq (D : FVec Ideal S1024x10 .f32) (P : FVec Ideal S1024x160 .f32) (E : Vec Ideal S10x160 .f32) :
    k2_pay9 D P E = raiseC D P E := rfl

/-- The second round's products. -/
theorem pay10_eq (M : FVec Ideal S1024x160 .f32) (D : FVec Ideal S1024x10 .f32) (P : FVec Ideal S1024x160 .f32) (E : Vec Ideal S10x160 .f32) :
    k2_pay10 M D P E E E E = prodC M (squashC (capsStep (softC (raiseC D P E)) E M) E) := rfl

/-- The lengths after the third round. -/
theorem pay11_eq (M : FVec Ideal S1024x160 .f32) (D : FVec Ideal S1024x10 .f32) (P : FVec Ideal S1024x160 .f32) (E : Vec Ideal S10x160 .f32) :
    k2_pay11 M D P E (constant S1024x10 .f32 0x00000000#32) E E E E = lengthC (squashC (capsStep (softC (raiseC D P E)) E M) E) E := rfl

/-! ### Each step at an index -/

section
variable (u : Fin 2048 → Fin 4 → EReal) (U : FVec Ideal S4x2048 .bf16) (hU : ∀ m i, U (ix2 m i) = u i m)
include hU

theorem alphaStep_at (A : FVec Ideal S2048x1024 .f32) (a : Fin 2048 → Fin 1024 → EReal) (hA : ∀ i j, A (ix2 i j) = a i j)
    (V : FVec Ideal S4x1024 .bf16) (v : Fin 1024 → Fin 4 → EReal) (hV : ∀ m j, V (ix2 m j) = v j m) (i : Fin 2048) (j : Fin 1024) :
    alphaStep A U V (ix2 i j) = Route.more u a v i j := by
  pointwise [alphaStep]
  simp only [hU, hV, hA, Route.more, Route.agree]

theorem voteStep_at (B : FVec Ideal S2048x1024 .f32) (b : Fin 2048 → Fin 1024 → EReal) (hB : ∀ i j, B (ix2 i j) = b i j)
    (m : Fin 4) (j : Fin 1024) : voteStep U B (ix2 m j) = Route.vote u b j m := by
  pointwise [voteStep]
  simp only [hU, hB, Route.vote]
  exact Finset.sum_congr rfl fun x _ => mul_comm _ _
end

theorem softStep_at (A : FVec Ideal S2048x1024 .f32) (a : Fin 2048 → Fin 1024 → EReal) (hA : ∀ i j, A (ix2 i j) = a i j)
    (i : Fin 2048) (j : Fin 1024) : softStep A (ix2 i j) = Route.soft (a i) j := by
  pointwise [softStep]
  simp only [hA, Route.soft, Route.top]

theorem squashStep_at (o : FVec Ideal S4x1024 .f32) (f : Fin 1024 → Fin 4 → EReal) (ho : ∀ m j, o (ix2 m j) = f j m)
    (I : FVec Ideal S4x4 .f32) (hI : ∀ a b : Fin 4, I (ix2 a b) = if a = b then 1 else 0) (j : Fin 1024) (m : Fin 4) :
    squashStep o I (ix2 j m) = f j m * Route.scale (∑ k, f j k * f j k) := by
  pointwise [squashStep]
  simp only [ho, hI, Route.scale]
  rw [Finset.sum_eq_single m]
  · simp
  · intro b _ hb; rw [if_neg hb, mul_zero]
  · intro h; exact absurd (Finset.mem_univ _) h

theorem softC_at (D : FVec Ideal S1024x10 .f32) (d : Fin 1024 → Fin 10 → EReal) (hD : ∀ n s, D (ix2 n s) = d n s)
    (n : Fin 1024) (s : Fin 10) : softC D (ix2 n s) = Route.soft (d n) s := by
  pointwise [softC]
  simp only [hD, Route.soft, Route.top]

/-- The predictions: four weight slabs times the four entries of a capsule. -/
theorem predict_at (v63 : FVec Ideal S1024x4 .f32) (o : Fin 1024 → Fin 4 → EReal) (h63 : ∀ n m, v63 (ix2 n m) = o n m)
    (U : FVec Ideal S4x2048 .bf16) (B : FVec Ideal S2048x1024 .f32) (I : Vec Ideal S4x4 .f32) (hv : k2_pay4 U B I = v63)
    (w0 w1 w2 w3 : Vec Ideal S1x1024x160 .f32) (w : Fin 1024 → Fin 160 → Fin 4 → EReal)
    (h0 : ∀ n q, w0 (ix3 0 n q) = w n q 0) (h1 : ∀ n q, w1 (ix3 0 n q) = w n q 1) (h2 : ∀ n q, w2 (ix3 0 n q) = w n q 2) (h3 : ∀ n q, w3 (ix3 0 n q) = w n q 3)
    (n : Fin 1024) (q : Fin 160) : k2_pay6 v63 (k2_pay5 U B I w0 w1 w2) w3 (ix2 n q) = ∑ m, w n q m * o n m := by
  pointwise [k2_pay6, k2_pay5]
  simp only [hv]
  rw [Fin.sum_univ_four]
  simp only [← h63, ← h0, ← h1, ← h2, ← h3]

section
variable (E : FVec Ideal S10x160 .f32) (hE : ∀ (s : Fin 10) (q : Fin 160), E (ix2 s q) = if q.val / 16 = s.val then 1 else 0)
variable (M : FVec Ideal S1024x160 .f32) (p : Fin 1024 → Fin 10 → Fin 16 → EReal) (hM : ∀ n s c, M (ix2 n (Route.at160 s c)) = p n s c)
include hE

theorem capsStep_at (hM : ∀ n s c, M (ix2 n (Route.at160 s c)) = p n s c) (D : FVec Ideal S1024x10 .f32) (d : Fin 1024 → Fin 10 → EReal)
    (hD : ∀ n s, D (ix2 n s) = d n s) (s : Fin 10) (c : Fin 16) :
    capsStep (softC D) E M (ix2 0 (Route.at160 s c)) = Route.gather p d s c := by
  pointwise [capsStep]
  simp only [softC_at D d hD, hE, hM, Route.sum10, Route.gather]
  have hs : (⟨(Route.at160 s c).val / 16, by omega⟩ : Fin 10) = s := Fin.ext (by simp [Route.at160]; omega)
  rw [hs]

theorem squashC_at (x : FVec Ideal S1x160 .f32) (f : Fin 10 → Fin 16 → EReal) (hx : ∀ s c, x (ix2 0 (Route.at160 s c)) = f s c)
    (s : Fin 10) (c : Fin 16) : squashC x E (ix2 0 (Route.at160 s c)) = Route.squash f s c := by
  have hs : (⟨(Route.at160 s c).val / 16, by omega⟩ : Fin 10) = s := Fin.ext (by simp [Route.at160]; omega)
  pointwise [squashC]
  simp only [hE, Route.sum160, Route.sum10, hs, hx, Route.squash, Route.scale, Ideal.ofBits_one_f32]

theorem raiseC_at (hM : ∀ n s c, M (ix2 n (Route.at160 s c)) = p n s c) (D : FVec Ideal S1024x10 .f32) (d : Fin 1024 → Fin 10 → EReal)
    (hD : ∀ n s, D (ix2 n s) = d n s) (n : Fin 1024) (s : Fin 10) :
    raiseC D (prodC M (squashC (capsStep (softC D) E M) E)) E (ix2 n s) = Route.raise p d n s := by
  pointwise [raiseC, prodC]
  simp only [hE, Route.sum160, hM, hD, squashC_at E hE _ _ (capsStep_at E hE M p hM D d hD), Route.raise]

theorem lengthC_at (x : FVec Ideal S1x160 .f32) (f : Fin 10 → Fin 16 → EReal) (hx : ∀ s c, x (ix2 0 (Route.at160 s c)) = f s c)
    (s : Fin 10) : lengthC x E (ix2 0 s) = Route.logit f s := by
  pointwise [lengthC]
  simp only [hE, Route.sum160, hx, Route.logit]
end

end Cert.RouteK
end
-- ==== Proof.RouteBlock.lean ====
/- What the routing region writes of its blocks: each of the ten leading entries of a row of its block is one logit. -/
module

public import proofs.«01_k».proof.Proof.Gen.KernelIdeal.Frame
public import proofs.«01_k».proof.Proof.RouteKernel
public import Idealize.ShloMosaic.Lib.Pipeline.ValueKit

@[expose] public section
set_option maxRecDepth 16384
noncomputable section
namespace Cert.RouteK
open Idealize.ShloMosaic Cert.KernelIdeal Cert.KernelIdeal.Gen

/-- The first 1024 of the 2048 chosen features. -/
def firstCaps (u : Fin 2048 → Fin 4 → EReal) (j : Fin 1024) : Fin 4 → EReal := u ⟨j.val, by omega⟩

section
variable (x0 : Vec Ideal S1x4x2048 .f32) (x1 : Vec Ideal S4x1024x160 .f32) (x2 : Vec Ideal S10x160 .f32) (x3 : Vec Ideal S4x4 .f32)
  (x4 : Vec Ideal S10x128 .f32)
variable (u : Fin 2048 → Fin 4 → EReal) (w : Fin 1024 → Fin 16 → Fin 10 → Fin 4 → EReal)

/-- The weights of the third round. -/
theorem pay3_at (h0 : ∀ (m : Fin 4) (i : Fin 2048), x0 (ix3 0 m i) = u i m) (i : Fin 2048) (j : Fin 1024) :
    k2_pay3 x0 (ix2 i j) = Route.soft (Route.agree3 u (firstCaps u) i) j := by
  have hU : ∀ m i, k2_pay2 x0 (ix2 m i) = u i m := fun m i => by pointwise [k2_pay2]; exact h0 m i
  have hV : ∀ (m : Fin 4) (j : Fin 1024), extractStridedSlice S4x1024 ![0, 0] (k2_pay2 x0) slices_S4x2048_o0_0_S4x1024 (ix2 m j) = firstCaps u j m :=
    fun m j => by
      rw [← show k2_pay2 x0 (ix2 m ⟨j.val, by omega⟩) = firstCaps u j m from hU _ _]
      refine congrArg (k2_pay2 x0) ?_
      funext d; refine Fin.ext ?_; fin_cases d <;> simp [ix2]
  rw [pay3_eq]
  dsimp only
  exact softStep_at _ _ (alphaStep_at u _ hU _ _ (alphaStep_at u _ hU _ _ (alphaStep_at u _ hU _ (fun _ _ => 0) (fun i j => by pointwise) _ _ hV) _ _
    (voteStep_at u _ hU _ _ (softStep_at _ _ (alphaStep_at u _ hU _ (fun _ _ => 0) (fun i j => by pointwise) _ _ hV)))) _ _
    (voteStep_at u _ hU _ _ (softStep_at _ _ (alphaStep_at u _ hU _ _ (alphaStep_at u _ hU _ (fun _ _ => 0) (fun i j => by pointwise) _ _ hV) _ _
    (voteStep_at u _ hU _ _ (softStep_at _ _ (alphaStep_at u _ hU _ (fun _ _ => 0) (fun i j => by pointwise) _ _ hV))))))) i j

/-- The logits of one graph. -/
theorem out2_5_at (h0 : ∀ (m : Fin 4) (i : Fin 2048), x0 (ix3 0 m i) = u i m)
    (h1 : ∀ (m : Fin 4) (n : Fin 1024) (s : Fin 10) (c : Fin 16), x1 (ix3 m n (Route.at160 s c)) = w n c s m)
    (h2 : ∀ (s : Fin 10) (q : Fin 160), x2 (ix2 s q) = if q.val / 16 = s.val then 1 else 0)
    (h3 : ∀ a b : Fin 4, x3 (ix2 a b) = if a = b then 1 else 0)
    (h4 : ∀ (s : Fin 10) (l : Fin 128), x4 (ix2 s l) = if l.val = s.val then 1 else 0)
    (r : Fin 8) (l : Fin 128) (hl : l.val < 10) :
    out2_5 x0 x1 x2 x3 x4 (ix3 0 r l) = Route.route u (firstCaps u) w ⟨l.val, hl⟩ := by
  have e0 : View.ld x0 r2_0 = x0 := View.ld_unit_lit _ _ (by decide)
  have e2 : View.ld x2 r2_6 = x2 := View.ld_unit_lit _ _ (by decide)
  have e3 : View.ld x3 r2_1 = x3 := View.ld_unit_lit _ _ (by decide)
  have e4 : View.ld x4 r2_7 = x4 := View.ld_unit_lit _ _ (by decide)
  have hU : ∀ m i, k2_pay2 x0 (ix2 m i) = u i m := fun m i => by pointwise [k2_pay2]; exact h0 m i
  have hcaps : ∀ n m, k2_pay4 (k2_pay2 x0) (k2_pay3 x0) x3 (ix2 n m) = Route.caps u (firstCaps u) n m := fun n m => by
    rw [pay4_eq, squashStep_at _ _ (voteStep_at u _ hU _ _ (pay3_at x0 u h0)) _ h3, Route.caps]
  -- the four weight slabs
  have hw : ∀ (s : Fin 10) (c : Fin 16) (n : Fin 1024), k2_pay16 x0 x1 x2 x3 x4 (ix2 n (Route.at160 s c)) = Route.predict w (Route.caps u (firstCaps u)) n s c := fun s c n => by
    rw [k2_pay16, k2_pay15, k2_pay14, k2_pay13, k2_pay12, e0, e3,
      predict_at _ _ hcaps _ _ _ rfl _ _ _ _ (fun n q m => x1 (ix3 m n q)) ?_ ?_ ?_ ?_]
    · simp only [h1, Route.predict]
    all_goals
      intro n q
      refine congrArg x1 ?_
      funext d; refine Fin.ext ?_; fin_cases d <;> simp [ix3]
  have hE := squashC_at x2 h2
  have h18 : k2_pay18 x0 x1 x2 x3 x4 = prodC (k2_pay16 x0 x1 x2 x3 x4) (squashC (capsStep (softC k2_pay7) x2 (k2_pay16 x0 x1 x2 x3 x4)) x2) := by
    rw [k2_pay18, e2, pay8_eq]; rfl
  have h7 : ∀ (n : Fin 1024) (s : Fin 10), k2_pay7 (F := Ideal) (ix2 n s) = (fun _ _ => 0 : Fin 1024 → Fin 10 → EReal) n s := fun n s => by pointwise [k2_pay7]
  rw [out2_5, e2, e4, k2_pay17, pay11_eq, pay10_eq, pay9_eq, h18, View.canon_unit_zero (by decide)]
  have hP := fun n s c => hw s c n
  have r1 := raiseC_at x2 h2 _ _ hP _ _ h7
  have r2 := raiseC_at x2 h2 _ _ hP _ _ r1
  have hz := lengthC_at x2 h2 _ _ (squashC_at x2 h2 _ _ (capsStep_at x2 h2 _ _ hP _ _ r2))
  pointwise [k2_pay1]
  simp only [hz, h4]
  rw [Finset.sum_eq_single (⟨l.val, hl⟩ : Fin 10)]
  · simp [Route.route, Route.classes]
  · intro b _ hb; rw [if_neg (fun h => hb (Fin.ext h.symm)), mul_zero]
  · intro h; exact absurd (Finset.mem_univ _) h
end

end Cert.RouteK
end
-- ==== Proof.RegionValues.lean ====
/- What the three regions leave in their arrays, entry by entry. -/
module

public import proofs.«01_k».proof.Proof.RegionArrays
public import proofs.«01_k».proof.Proof.TreeBlock
public import proofs.«01_k».proof.Proof.RouteBlock

@[expose] public section
set_option maxRecDepth 16384
noncomputable section
namespace Cert.Regions
open Idealize.ShloMosaic Idealize.ShloMosaic.TcCoe Cert.KernelIdeal Cert.KernelIdeal.Gen Cert.Tree

variable (V : (c : Dev nD) → (b : Ref sig .tc) → Buf (Elt Ideal) ((c : Thread nD τ).loc b))

/-- The norm region: four times the sum of the squares of a node's row. -/
theorem norm_at (c : Dev nD) (h : Fin 10 → Fin 10000 → Fin 128 → EReal)
    (h0 : ∀ g n k, (V c main_v15 : S10x10000x128.Idx → EReal) (ix3 g n k) = (h g n k : EReal)) (g : Fin 10) (n : Fin 10000) :
    ((dat0 V c).arrAt 1 cfg0.N : S10x10000x1.Idx → EReal) (ix3 g n 0) = ((4 : ℝ) : EReal) * ∑ k, h g n k * h g n k := by
  rw [norm_all]
  exact Cert.TreeK.out0_1_at (iblk0 V c 0 (⟨g.val, g.isLt⟩ : Fin grid0.N)) (h g)
    (fun n k => (norm_block V c _ g rfl n k).trans (h0 g n k)) n

/-- What the tree region reads, entry by entry. -/
structure TreeReads (c : Dev nD) (h : Fin 10 → Fin 632 → Fin 128 → EReal) (a : Fin 10 → Fin 632 → Fin 16 → Fin 128 → EReal)
    (tl tr : Fin 632 → Fin 16 → EReal) (ml mr : Fin 48 → Fin 632 → EReal) (wl wr wt : Fin 4 → Fin 128 → Fin 128 → EReal) (b : Fin 4 → Fin 128 → EReal) : Prop where
  rows : ∀ g p k, (V c main_v16 : S10x632x128.Idx → EReal) (ix3 g p k) = (h g p k : EReal)
  kids : ∀ g p j k, (V c main_v19 : S10x632x16x128.Idx → EReal) (ix4 g p j k) = (a g p j k : EReal)
  tl : ∀ p j, (V c main_v40 : S632x16x1.Idx → EReal) (ix3 p j 0) = (tl p j : EReal)
  tr : ∀ p j, (V c main_v46 : S632x16x1.Idx → EReal) (ix3 p j 0) = (tr p j : EReal)
  ml : ∀ p q, (V c main_v68 : S48x632.Idx → EReal) (ix2 p q) = (ml p q : EReal)
  mr : ∀ p q, (V c main_v71 : S48x632.Idx → EReal) (ix2 p q) = (mr p q : EReal)
  wl : ∀ l k o, (V c main_arg6 : S4x128x128.Idx → EReal) (ix3 l k o) = (wl l k o : EReal)
  wr : ∀ l k o, (V c main_arg7 : S4x128x128.Idx → EReal) (ix3 l k o) = (wr l k o : EReal)
  wt : ∀ l k o, (V c main_arg8 : S4x128x128.Idx → EReal) (ix3 l k o) = (wt l k o : EReal)
  off : ∀ l o, (V c main_arg9 : S4x1x128.Idx → EReal) (ix3 l 0 o) = (b l o : EReal)

variable {V} {c : Dev nD} {h : Fin 10 → Fin 632 → Fin 128 → EReal} {a : Fin 10 → Fin 632 → Fin 16 → Fin 128 → EReal}
  {tl tr : Fin 632 → Fin 16 → EReal} {ml mr : Fin 48 → Fin 632 → EReal} {wl wr wt : Fin 4 → Fin 128 → Fin 128 → EReal} {b : Fin 4 → Fin 128 → EReal}

/-- The tree region's norms: the squares of the four layers' rows, summed. -/
theorem tnorm_at (R : TreeReads V c h a tl tr ml mr wl wr wt b) (g : Fin 10) (p : Fin 632) :
    ((dat1 V c).arrAt 10 cfg1.N : S10x632x1.Idx → EReal) (ix3 g p 0)
      = (norm2 (fun l => Cert.TreeK.rowsOf (a g) tl tr (h g) ml mr wl wr wt b l p) : EReal) := by
  rw [tnorm_all]
  exact Cert.TreeK.out1_10_at _ _ _ _ _ _ _ _ _ _
    (fun p k => (tree_rows V c (⟨g.val, g.isLt⟩ : Fin grid1.N) g rfl p k).trans (R.rows g p k))
    (fun p j k => (tree_kids V c (⟨g.val, g.isLt⟩ : Fin grid1.N) g rfl p j k).trans (R.kids g p j k))
    (fun p j => (tree_tl V c _ p j 0).trans (R.tl p j)) (fun p j => (tree_tr V c _ p j 0).trans (R.tr p j))
    (fun p q => (tree_ml V c _ p q).trans (R.ml p q)) (fun p q => (tree_mr V c _ p q).trans (R.mr p q))
    (fun l k o => (tree_wl V c _ l k o).trans (R.wl l k o)) (fun l k o => (tree_wr V c _ l k o).trans (R.wr l k o))
    (fun l k o => (tree_wt V c _ l k o).trans (R.wt l k o)) (fun l o => (tree_b V c _ l 0 o).trans (R.off l o)) p

/-- The tree region's features: the four layers' rows. -/
theorem feat_at (R : TreeReads V c h a tl tr ml mr wl wr wt b) (g : Fin 10) (l : Fin 4) (p : Fin 632) (k : Fin 128) :
    ((dat1 V c).arrAt 11 cfg1.N : S10x4x632x128.Idx → EReal) (ix4 g l p k)
      = (Cert.TreeK.rowsOf (a g) tl tr (h g) ml mr wl wr wt b l p k : EReal) := by
  rw [feat_all]
  exact Cert.TreeK.out1_11_at _ _ _ _ _ _ _ _ _ _
    (fun p k => (tree_rows V c (⟨g.val, g.isLt⟩ : Fin grid1.N) g rfl p k).trans (R.rows g p k))
    (fun p j k => (tree_kids V c (⟨g.val, g.isLt⟩ : Fin grid1.N) g rfl p j k).trans (R.kids g p j k))
    (fun p j => (tree_tl V c _ p j 0).trans (R.tl p j)) (fun p j => (tree_tr V c _ p j 0).trans (R.tr p j))
    (fun p q => (tree_ml V c _ p q).trans (R.ml p q)) (fun p q => (tree_mr V c _ p q).trans (R.mr p q))
    (fun l k o => (tree_wl V c _ l k o).trans (R.wl l k o)) (fun l k o => (tree_wr V c _ l k o).trans (R.wr l k o))
    (fun l k o => (tree_wt V c _ l k o).trans (R.wt l k o)) (fun l o => (tree_b V c _ l 0 o).trans (R.off l o)) l p k

/-- The routing region: the second capsules of a graph are routed to the classes. -/
theorem route_at (u : Fin 10 → Fin 2048 → Fin 4 → EReal) (w : Fin 1024 → Fin 16 → Fin 10 → Fin 4 → EReal)
    (hu : ∀ g m i, (V c main_v120 : S10x4x2048.Idx → EReal) (ix3 g m i) = u g i m)
    (hw : ∀ m n s q, (V c main_v124 : S4x1024x160.Idx → EReal) (ix3 m n (Route.at160 s q)) = w n q s m)
    (he : ∀ s q, (V c main_cst : S10x160.Idx → EReal) (ix2 s q) = if q.val / 16 = s.val then (1 : EReal) else 0)
    (hi : ∀ p q, (V c main_cst_0 : S4x4.Idx → EReal) (ix2 p q) = if p = q then (1 : EReal) else 0)
    (hp : ∀ s l, (V c main_cst_1 : S10x128.Idx → EReal) (ix2 s l) = if l.val = s.val then (1 : EReal) else 0)
    (g : Fin 10) (r : Fin 8) (l : Fin 128) (hl : l.val < 10) :
    ((dat2 V c).arrAt 5 cfg2.N : S10x8x128.Idx → EReal) (ix3 g r l) = Route.route (u g) (RouteK.firstCaps (u g)) w ⟨l.val, hl⟩ := by
  rw [route_all]
  exact Cert.RouteK.out2_5_at _ _ _ _ _ (u g) w
    (fun m i => (route_u V c (⟨g.val, g.isLt⟩ : Fin grid2.N) g rfl m i).trans (hu g m i))
    (fun m n s q => (route_w V c _ m n _).trans (hw m n s q))
    (fun s q => (route_e V c _ s q).trans (he s q)) (fun p q => (route_i V c _ p q).trans (hi p q))
    (fun s l => (route_p V c _ s l).trans (hp s l)) r l hl

end Cert.Regions
-- ==== Proof.TableWords.lean ====
/- The coefficient tables that the host operations build from coordinates, as the real tables of the tree specification. -/
module

public import proofs.«01_k».proof.Proof.TreeSpec
public import Idealize.ShloMosaic.Lib.Pointwise
public import Idealize.ShloMosaic.Lib.WordCmp

@[expose] public section
noncomputable section
namespace Cert.HostK
open Idealize.ShloMosaic Cert.Tree

/-- The literal fifteen. -/
theorem fifteen : Ideal.ofBits .f32 1097859072#32 = ((15 : ℝ) : EReal) := by
  simp [Ideal.ofBits, Ideal.ieee, -EReal.coe_mul]; norm_num

/-- The literal fourteen. -/
theorem fourteen : Ideal.ofBits .f32 1096810496#32 = ((14 : ℝ) : EReal) := by
  simp [Ideal.ofBits, Ideal.ieee, -EReal.coe_mul]; norm_num

/-- A signed comparison reads the signed values. -/
theorem slt_bit (x y : BitVec 32) : IntOp.cmpi .slt x y = BitVec.ofBool (decide (x.toInt < y.toInt)) := rfl
theorem sge_bit (x y : BitVec 32) : IntOp.cmpi .sge x y = BitVec.ofBool (decide (y.toInt ≤ x.toInt)) := rfl
theorem eq_bit (x y : BitVec 32) : IntOp.cmpi .eq x y = BitVec.ofBool (decide (x = y)) := by
  show BitVec.ofBool (x == y) = _
  congr 1
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
theorem pick_bit {α : Type} (p : Prop) [Decidable p] (a b : α) : Scalar.select (BitVec.ofBool (decide p)) a b = if p then a else b := by
  by_cases hp : p <;> simp [hp, Scalar.select]

/-- A small word's signed value. -/
theorem small (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- A small word as a float. -/
theorem float_small (n : ℕ) (h : n < 2 ^ 31) : (FloatOps.sitofp (F := Ideal) FTy.f32 (BitVec.ofNat 32 n)) = ((n : ℝ) : EReal) := by
  show (((BitVec.ofNat 32 n).toInt : ℝ) : EReal) = _
  rw [small n h]; simp

/-- A real divided by a nonzero real. -/
theorem div_real (x y : ℝ) (h : y ≠ 0) : Ideal.div (x : EReal) (y : EReal) = ((x / y : ℝ) : EReal) := by
  rw [Ideal.div_coe h, ← EReal.coe_mul]; congr 1; ring

/-- The first parents are those below 624. -/
theorem row_lt (p : Fin 632) : ((BitVec.ofNat 32 p.val).toInt < (624#32).toInt) ↔ p.val < 624 := by
  rw [small _ (by omega)]
  show (p.val : ℤ) < 624 ↔ _
  omega

/-- The last parent with children is 624. -/
theorem row_eq (p : Fin 632) : (BitVec.ofNat 32 p.val = 624#32) ↔ p.val = 624 := by
  constructor
  · intro h
    have := congrArg BitVec.toNat h
    rw [BitVec.toNat_ofNat] at this
    have e : (624#32).toNat = 624 := rfl
    omega
  · intro h; rw [h]

/-- The last parent has fifteen children. -/
theorem place_lt (j : Fin 16) : ((BitVec.ofNat 32 j.val).toInt < (15#32).toInt) ↔ j.val < 15 := by
  rw [small _ (by omega)]
  show (j.val : ℤ) < 15 ↔ _
  omega

/-- A table chosen by row and place. -/
theorem tab_pick (p : Fin 632) (j : Fin 16) (a b : ℝ) :
    Scalar.select (IntOp.cmpi .slt (BitVec.ofNat 32 p.val) 624#32) (a : EReal)
      (Scalar.select (IntOp.andi (IntOp.cmpi .eq (BitVec.ofNat 32 p.val) 624#32) (IntOp.cmpi .slt (BitVec.ofNat 32 j.val) 15#32)) (b : EReal) 0)
    = ((if p.val < 624 then a else if p.val = 624 ∧ j.val < 15 then b else 0 : ℝ) : EReal) := by
  rw [slt_bit, eq_bit, slt_bit, and_bit, pick_bit, pick_bit]
  simp only [row_lt, row_eq, place_lt]
  split_ifs <;> simp

/-- The left coefficients of children. -/
theorem tabL (p : Fin 632) (j : Fin 16) :
    Scalar.select (IntOp.cmpi .slt (BitVec.ofNat 32 p.val) 624#32)
      (Ideal.div (Ideal.ofBits FTy.f32 1097859072#32 - FloatOps.sitofp (F := Ideal) FTy.f32 (BitVec.ofNat 32 j.val)) (Ideal.ofBits FTy.f32 1097859072#32))
      (Scalar.select (IntOp.andi (IntOp.cmpi .eq (BitVec.ofNat 32 p.val) 624#32) (IntOp.cmpi .slt (BitVec.ofNat 32 j.val) 15#32))
        (Ideal.div (Ideal.ofBits FTy.f32 1096810496#32 - FloatOps.sitofp (F := Ideal) FTy.f32 (BitVec.ofNat 32 j.val)) (Ideal.ofBits FTy.f32 1096810496#32)) 0)
    = (tabK cfL p j : EReal) := by
  rw [fifteen, fourteen, float_small _ (by omega), ← EReal.coe_sub, ← EReal.coe_sub, div_real _ _ (by norm_num), div_real _ _ (by norm_num)]
  exact tab_pick p j _ _

/-- The right coefficients of children. -/
theorem tabR (p : Fin 632) (j : Fin 16) :
    Scalar.select (IntOp.cmpi .slt (BitVec.ofNat 32 p.val) 624#32)
      (Ideal.div (FloatOps.sitofp (F := Ideal) FTy.f32 (BitVec.ofNat 32 j.val)) (Ideal.ofBits FTy.f32 1097859072#32))
      (Scalar.select (IntOp.andi (IntOp.cmpi .eq (BitVec.ofNat 32 p.val) 624#32) (IntOp.cmpi .slt (BitVec.ofNat 32 j.val) 15#32))
        (Ideal.div (FloatOps.sitofp (F := Ideal) FTy.f32 (BitVec.ofNat 32 j.val)) (Ideal.ofBits FTy.f32 1096810496#32)) 0)
    = (tabK cfR p j : EReal) := by
  rw [fifteen, fourteen, float_small _ (by omega), div_real _ _ (by norm_num), div_real _ _ (by norm_num)]
  exact tab_pick p j _ _

/-- The distance of a column from the first child of a row, as a word. -/
abbrev gap (p : Fin 48) (q : Fin 632) : BitVec 32 :=
  IntOp.subi (BitVec.ofNat 32 q.val) (IntOp.addi (IntOp.muli (16#32) (BitVec.ofNat 32 p.val)) 1#32)

/-- Its signed value. -/
theorem gap_int (p : Fin 48) (q : Fin 632) : (gap p q).toInt = (q.val : ℤ) - (16 * p.val + 1) := by
  have h : IntOp.addi (IntOp.muli (16#32) (BitVec.ofNat 32 p.val)) 1#32 = BitVec.ofNat 32 (16 * p.val + 1) := by
    show BitVec.ofNat 32 16 * BitVec.ofNat 32 p.val + BitVec.ofNat 32 1 = _
    rw [← BitVec.ofNat_mul, ← BitVec.ofNat_add]
  unfold gap
  rw [h]
  show (BitVec.ofNat 32 q.val - BitVec.ofNat 32 (16 * p.val + 1)).toInt = _
  rw [BitVec.toInt_sub, small _ (by omega), small _ (by omega)]
  rw [Int.bmod_eq_of_le (by omega) (by omega)]
  push_cast; ring

/-- A table chosen by the gap. -/
theorem gap_pick (p : Fin 48) (q : Fin 632) (a : ℝ) :
    Scalar.select (IntOp.andi (IntOp.andi (IntOp.cmpi .slt (BitVec.ofNat 32 p.val) 39#32) (IntOp.cmpi .sge (gap p q) 0#32)) (IntOp.cmpi .slt (gap p q) 16#32))
      (a : EReal) 0
    = ((if p.val < 39 ∧ 16 * p.val + 1 ≤ q.val ∧ q.val < 16 * p.val + 17 then a else 0 : ℝ) : EReal) := by
  rw [slt_bit, sge_bit, slt_bit, and_bit, and_bit, pick_bit, gap_int, small _ (by omega)]
  have e : (((p.val : ℤ) < (39#32).toInt ∧ (0#32).toInt ≤ (q.val : ℤ) - (16 * p.val + 1)) ∧ (q.val : ℤ) - (16 * p.val + 1) < (16#32).toInt)
      ↔ (p.val < 39 ∧ 16 * p.val + 1 ≤ q.val ∧ q.val < 16 * p.val + 17) := by
    have e1 : (39#32).toInt = 39 := rfl
    have e2 : (0#32).toInt = 0 := rfl
    have e3 : (16#32).toInt = 16 := rfl
    rw [e1, e2, e3]; omega
  simp only [e]
  split_ifs <;> simp

/-- The gap as a float. -/
theorem gap_float (p : Fin 48) (q : Fin 632) : FloatOps.sitofp (F := Ideal) FTy.f32 (gap p q) = (((q.val : ℝ) - (16 * p.val + 1) : ℝ) : EReal) := by
  show (((gap p q).toInt : ℝ) : EReal) = _
  rw [gap_int]; push_cast; rfl

/-- The left mixing table. -/
theorem mixL (p : Fin 48) (q : Fin 632) :
    Scalar.select (IntOp.andi (IntOp.andi (IntOp.cmpi .slt (BitVec.ofNat 32 p.val) 39#32) (IntOp.cmpi .sge (gap p q) 0#32)) (IntOp.cmpi .slt (gap p q) 16#32))
      (Ideal.div (Ideal.ofBits FTy.f32 1097859072#32 - FloatOps.sitofp (F := Ideal) FTy.f32 (gap p q)) (Ideal.ofBits FTy.f32 1097859072#32)) 0
    = (tabM cfL p q : EReal) := by
  rw [fifteen, gap_float, ← EReal.coe_sub, div_real _ _ (by norm_num)]
  exact gap_pick p q _

/-- The right mixing table. -/
theorem mixR (p : Fin 48) (q : Fin 632) :
    Scalar.select (IntOp.andi (IntOp.andi (IntOp.cmpi .slt (BitVec.ofNat 32 p.val) 39#32) (IntOp.cmpi .sge (gap p q) 0#32)) (IntOp.cmpi .slt (gap p q) 16#32))
      (Ideal.div (FloatOps.sitofp (F := Ideal) FTy.f32 (gap p q)) (Ideal.ofBits FTy.f32 1097859072#32)) 0
    = (tabM cfR p q : EReal) := by
  rw [fifteen, gap_float, div_real _ _ (by norm_num)]
  exact gap_pick p q _

end Cert.HostK
-- ==== Proof.HostReads.lean ====
/- What the host operations before the regions put in the buffers the regions read. -/
module

public import proofs.«01_k».proof.Proof.Gen.KernelIdeal.Frame
public import proofs.«01_k».proof.Proof.TreeStates
public import proofs.«01_k».proof.Proof.TableWords
public import Idealize.ShloMosaic.Lib.Pipeline.ValueKit
public import Idealize.ShloMosaic.Lib.StableHlo.ReadAt

@[expose] public section
set_option maxRecDepth 16384
noncomputable section
namespace Cert.HostK
open Idealize.ShloMosaic Idealize.ShloMosaic.TcCoe Cert.KernelIdeal Cert.KernelIdeal.Gen

variable (V : Valuation τ sig (Elt Ideal))

/-- The leaf features, reshaped by graph. -/
theorem v15_eq : StableHlo.after (hostOps0 (F := Ideal)) V (Proc.devRef .tc main_v15)
    = shapeCast S10x10000x128 (Cert.ReferenceIdeal.Read.val_main_v18 (F := Ideal) (V (Proc.devRef .tc main_arg0)) (V (Proc.devRef .tc main_arg1))
        (V (Proc.devRef .tc main_arg4)) (V (Proc.devRef .tc main_arg5))) Gen.shapeCasts_S100000x128_S10x10000x128 := by
  after_results
  rfl

/-- The leaf features of a graph's node. -/
theorem v15_at (g : Fin 10) (n : Fin 10000) (k : Fin 128) :
    (StableHlo.after (hostOps0 (F := Ideal)) V (Proc.devRef .tc main_v15) : S10x10000x128.Idx → EReal) (ix3 g n k)
    = Cert.ReferenceIdeal.Read.val_main_v18 (F := Ideal) (V (Proc.devRef .tc main_arg0)) (V (Proc.devRef .tc main_arg1))
        (V (Proc.devRef .tc main_arg4)) (V (Proc.devRef .tc main_arg5)) (ix2 (Tree.node g n) k) := by
  rw [v15_eq]
  generalize Cert.ReferenceIdeal.Read.val_main_v18 (F := Ideal) (V (Proc.devRef .tc main_arg0)) (V (Proc.devRef .tc main_arg1))
        (V (Proc.devRef .tc main_arg4)) (V (Proc.devRef .tc main_arg5)) = y
  refine shapeCast_apply y _ _ _ ?_
  rw [Shape.rowMajor_val_three, Shape.rowMajor_val_two]
  show (g.val * 10000 + n.val) * 128 + k.val = (g.val * 10000 + n.val) * 128 + k.val
  rfl

/-- The rows of a graph's first nodes. -/
theorem v16_eq : StableHlo.after (hostOps0 (F := Ideal)) V (Proc.devRef .tc main_v16)
    = extractStridedSlice S10x632x128 ![0, 0, 0] (StableHlo.after (hostOps0 (F := Ideal)) V (Proc.devRef .tc main_v15)) Gen.slices_S10x10000x128_S10x632x128_0_0_0 := by
  after_results

/-- The rows of a graph's nodes from the second. -/
theorem v17_eq : StableHlo.after (hostOps0 (F := Ideal)) V (Proc.devRef .tc main_v17)
    = extractStridedSlice S10x9999x128 ![0, 1, 0] (StableHlo.after (hostOps0 (F := Ideal)) V (Proc.devRef .tc main_v15)) Gen.slices_S10x10000x128_S10x9999x128_0_1_0 := by
  after_results

/-- The children's rows, shifted by one and padded with zeros. -/
theorem v18_at (g : Fin 10) (n : Fin 10112) (k : Fin 128) (h5 : (V (Proc.devRef .tc main_c_5) : S_.Idx → BitVec 32) = constantI S_ 32 0#32) :
    (StableHlo.after (hostOps0_1 (F := Ideal)) V (Proc.devRef .tc main_v18) : S10x10112x128.Idx → EReal) (ix3 g n k)
    = if h : n.val < 9999 then (V (Proc.devRef .tc main_v17) : S10x9999x128.Idx → EReal) (ix3 g ⟨n.val, h⟩ k) else (0 : EReal) := by
  after_reads_at
  rw [h5]
  show (if h : n.val < 9999 then _ else (((0#32).toInt : ℝ) : EReal)) = _
  simp

/-- The children by parent. -/
theorem v19_at (g : Fin 10) (p : Fin 632) (j : Fin 16) (k : Fin 128) (n : Fin 10112) (hn : n.val = p.val * 16 + j.val) :
    (StableHlo.after (hostOps0_2 (F := Ideal)) V (Proc.devRef .tc main_v19) : S10x632x16x128.Idx → EReal) (ix4 g p j k)
    = (V (Proc.devRef .tc main_v18) : S10x10112x128.Idx → EReal) (ix3 g n k) := by
  after_reads_at
  exact congrArg (V (Proc.devRef .tc main_v18) : S10x10112x128.Idx → EReal) (congrArg (ix3 g · k) (Fin.ext hn.symm))

/-- The left coefficients. -/
theorem v40_at (p : Fin 632) (j : Fin 16) : (StableHlo.after (hostOps0_2 (F := Ideal)) V (Proc.devRef .tc main_v40) : S632x16x1.Idx → EReal) (ix3 p j 0)
    = (Tree.tabK Tree.cfL p j : EReal) := by
  after_reads_at
  exact tabL p j

/-- The right coefficients. -/
theorem v46_at (p : Fin 632) (j : Fin 16) : (StableHlo.after (hostOps0_2 (F := Ideal)) V (Proc.devRef .tc main_v46) : S632x16x1.Idx → EReal) (ix3 p j 0)
    = (Tree.tabK Tree.cfR p j : EReal) := by
  after_reads_at
  exact tabR p j

/-- The left mixing table. -/
theorem v68_at (p : Fin 48) (q : Fin 632) : (StableHlo.after (hostOps0_2 (F := Ideal)) V (Proc.devRef .tc main_v68) : S48x632.Idx → EReal) (ix2 p q)
    = (Tree.tabM Tree.cfL p q : EReal) := by
  after_reads_at
  exact mixL p q

/-- The right mixing table. -/
theorem v71_at (p : Fin 48) (q : Fin 632) : (StableHlo.after (hostOps0_2 (F := Ideal)) V (Proc.devRef .tc main_v71) : S48x632.Idx → EReal) (ix2 p q)
    = (Tree.tabM Tree.cfR p q : EReal) := by
  after_reads_at
  exact mixR p q

/-- The padding word is zero. -/
theorem c5_eq : StableHlo.after (hostOps0 (F := Ideal)) V (Proc.devRef .tc main_c_5) = constantI S_ 32 0#32 := by
  after_results

/-- The listed words of the group indicator. -/
theorem lit0_words : ∀ i : Fin 1600, lit0 i = if (i.val % 160) / 16 = i.val / 160 then 0x3F800000#32 else 0#32 := by decide +kernel

/-- The listed words of the unit matrix. -/
theorem lit1_words : ∀ i : Fin 16, lit1 i = if i.val / 4 = i.val % 4 then 0x3F800000#32 else 0#32 := by decide +kernel

/-- The listed words of the lane selector. -/
theorem lit2_words : ∀ i : Fin 1280, lit2 i = if i.val % 128 = i.val / 128 then 0x3F800000#32 else 0#32 := by decide +kernel

/-- A word that is one or zero, as a float. -/
theorem word_if (p : Prop) [Decidable p] : Ideal.ofBits .f32 (if p then 0x3F800000#32 else 0#32) = if p then (1 : EReal) else 0 := by
  split_ifs
  · exact Ideal.ofBits_one_f32
  · exact Ideal.ofBits_zero_f32

/-- The group indicator. -/
theorem cst_at (s : Fin 10) (q : Fin 160) : (StableHlo.after (hostOps0 (F := Ideal)) V (Proc.devRef .tc main_cst) : S10x160.Idx → EReal) (ix2 s q)
    = if q.val / 16 = s.val then (1 : EReal) else 0 := by
  after_reads_at
  have hv : (S10x160.rowMajor (ix2 s q)).val = s.val * 160 + q.val := by rw [Shape.rowMajor_val_two]; rfl
  have e : (s.val * 160 + q.val) % 160 / 16 = (s.val * 160 + q.val) / 160 ↔ q.val / 16 = s.val := by omega
  refine Eq.trans (congrArg (Ideal.ofBits .f32) (lit0_words (S10x160.rowMajor (ix2 s q)))) ?_
  rw [word_if, hv]
  simp only [e]

/-- The unit matrix. -/
theorem cst0_at (s : Fin 4) (q : Fin 4) : (StableHlo.after (hostOps0 (F := Ideal)) V (Proc.devRef .tc main_cst_0) : S4x4.Idx → EReal) (ix2 s q)
    = if s = q then (1 : EReal) else 0 := by
  after_reads_at
  have hv : (S4x4.rowMajor (ix2 s q)).val = s.val * 4 + q.val := by rw [Shape.rowMajor_val_two]; rfl
  have e : (s.val * 4 + q.val) / 4 = (s.val * 4 + q.val) % 4 ↔ s = q := by rw [Fin.ext_iff]; omega
  refine Eq.trans (congrArg (Ideal.ofBits .f32) (lit1_words (S4x4.rowMajor (ix2 s q)))) ?_
  rw [word_if, hv]
  simp only [e]

/-- The lane selector. -/
theorem cst1_at (s : Fin 10) (l : Fin 128) : (StableHlo.after (hostOps0 (F := Ideal)) V (Proc.devRef .tc main_cst_1) : S10x128.Idx → EReal) (ix2 s l)
    = if l.val = s.val then (1 : EReal) else 0 := by
  after_reads_at
  have hv : (S10x128.rowMajor (ix2 s l)).val = s.val * 128 + l.val := by rw [Shape.rowMajor_val_two]; rfl
  have e : (s.val * 128 + l.val) % 128 = (s.val * 128 + l.val) / 128 ↔ l.val = s.val := by omega
  refine Eq.trans (congrArg (Ideal.ofBits .f32) (lit2_words (S10x128.rowMajor (ix2 s l)))) ?_
  rw [word_if, hv]
  simp only [e]

end Cert.HostK
-- ==== Proof.KernelTree.lean ====
/- The kernel's run up to the tree region, from the numbers behind the arguments. -/
module

public import proofs.«01_k».proof.Proof.RegionValues
public import proofs.«01_k».proof.Proof.HostReads

@[expose] public section
set_option maxRecDepth 16384
noncomputable section
namespace Cert.KernelValue
open Idealize.ShloMosaic Idealize.ShloMosaic.TcCoe Cert.KernelIdeal Cert.KernelIdeal.Gen Cert.Tree

variable (m : (ℓ : Loc nD τ sig) → Buf (Elt Ideal) ℓ) (ρ : Dev nD → PrngReg) (c : Dev nD)

/-- The leaf features of the launch's arguments. -/
abbrev leaves : FVec Ideal Cert.ReferenceIdeal.S100000x128 .f32 :=
  Cert.ReferenceIdeal.Read.val_main_v18 (F := Ideal) (m ((c : Thread nD τ).loc main_arg0)) (m ((c : Thread nD τ).loc main_arg1))
    (m ((c : Thread nD τ).loc main_arg4)) (m ((c : Thread nD τ).loc main_arg5))

/-- The numbers behind the launch's arguments. -/
abbrev Inputs (h0 : Fin 10 → Fin 10000 → Fin 128 → EReal) (wl wr wt : Fin 4 → Fin 128 → Fin 128 → EReal) (b : Fin 4 → Fin 128 → EReal) : Prop :=
  TreeR.Reals (leaves m c) (m ((c : Thread nD τ).loc main_arg6)) (m ((c : Thread nD τ).loc main_arg7)) (m ((c : Thread nD τ).loc main_arg8))
    (m ((c : Thread nD τ).loc main_arg9)) h0 wl wr wt b

/-- The leaf features as the regions find them. -/
theorem keep15 : W3 m ρ c (Proc.devRef .tc main_v15) = W1 m ρ c (Proc.devRef .tc main_v15) :=
  (W3_of m ρ c main_v15 (by decide +kernel)).trans (W2_of m ρ c main_v15 (by decide +kernel))

variable {m c} {h0 : Fin 10 → Fin 10000 → Fin 128 → EReal} {wl wr wt : Fin 4 → Fin 128 → Fin 128 → EReal} {b : Fin 4 → Fin 128 → EReal}
  (R : Inputs m c h0 wl wr wt b)
include R

/-- The leaf features after the first host operations. -/
theorem first15_at (g : Fin 10) (n : Fin 10000) (k : Fin 128) :
    (W1 m ρ c (Proc.devRef .tc main_v15) : S10x10000x128.Idx → EReal) (ix3 g n k) = (h0 g n k : EReal) :=
  (HostK.v15_at (W0 m ρ c) g n k).trans (R.init g n k)

/-- The leaf features that the norm region reads. -/
theorem v15_at (g : Fin 10) (n : Fin 10000) (k : Fin 128) :
    (W3 m ρ c (Proc.devRef .tc main_v15) : S10x10000x128.Idx → EReal) (ix3 g n k) = (h0 g n k : EReal) := by
  rw [keep15 m ρ c]; exact first15_at ρ R g n k

/-- The rows of the nodes that may have children. -/
theorem v16_at (g : Fin 10) (p : Fin 632) (k : Fin 128) :
    (W4 m ρ c (Proc.devRef .tc main_v16) : S10x632x128.Idx → EReal) (ix3 g p k) = (keep (h0 g) p k : EReal) := by
  rw [(W4_of m ρ c main_v16 (by decide +kernel)).trans ((W3_of m ρ c main_v16 (by decide +kernel)).trans (W2_of m ρ c main_v16 (by decide +kernel)))]
  have e : W1 m ρ c (Proc.devRef .tc main_v16) = extractStridedSlice S10x632x128 ![0, 0, 0] (W1 m ρ c (Proc.devRef .tc main_v15)) Gen.slices_S10x10000x128_S10x632x128_0_0_0 :=
    HostK.v16_eq (W0 m ρ c)
  rw [e]
  refine Eq.trans ?_ (first15_at ρ R g ⟨p.val, by omega⟩ k)
  generalize W1 m ρ c (Proc.devRef .tc main_v15) = y
  pointwise

/-- The children, shifted and padded. -/
theorem v18_at (g : Fin 10) (n : Fin 10112) (k : Fin 128) :
    (W2 m ρ c (Proc.devRef .tc main_v18) : S10x10112x128.Idx → EReal) (ix3 g n k)
      = (if h : n.val + 1 < 10000 then h0 g ⟨n.val + 1, h⟩ k else 0) := by
  refine (HostK.v18_at (W1 m ρ c) g n k (HostK.c5_eq (W0 m ρ c))).trans ?_
  by_cases h : n.val < 9999
  · rw [dif_pos h, dif_pos (by omega)]
    refine Eq.trans ?_ (first15_at ρ R g ⟨n.val + 1, by omega⟩ k)
    have e : W1 m ρ c (Proc.devRef .tc main_v17) = extractStridedSlice S10x9999x128 ![0, 1, 0] (W1 m ρ c (Proc.devRef .tc main_v15)) Gen.slices_S10x10000x128_S10x9999x128_0_1_0 :=
      HostK.v17_eq (W0 m ρ c)
    rw [e]
    generalize W1 m ρ c (Proc.devRef .tc main_v15) = y
    have e : (⟨1 + n.val, by omega⟩ : Fin 10000) = ⟨n.val + 1, by omega⟩ := Fin.ext (Nat.add_comm _ _)
    rw [← e]
    pointwise
  · rw [dif_neg h, dif_neg (by omega)]

/-- The children by parent. -/
theorem v19_at (g : Fin 10) (p : Fin 632) (j : Fin 16) (k : Fin 128) :
    (W4 m ρ c (Proc.devRef .tc main_v19) : S10x632x16x128.Idx → EReal) (ix4 g p j k) = (childs (h0 g) p j k : EReal) := by
  rw [W4_of m ρ c main_v19 (by decide +kernel)]
  refine (HostK.v19_at (W2 m ρ c) g p j k ⟨p.val * 16 + j.val, by omega⟩ rfl).trans ((v18_at ρ R g _ k).trans ?_)
  unfold childs
  have e : 16 * p.val + 1 + j.val = p.val * 16 + j.val + 1 := by ring
  by_cases h : p.val * 16 + j.val + 1 < 10000
  · rw [dif_pos h, dif_pos (by omega)]
    exact congrArg (h0 g · k) (Fin.ext e.symm)
  · rw [dif_neg h, dif_neg (by omega)]

/-- What the tree region reads. -/
theorem reads : Regions.TreeReads (V4 m ρ) c (fun g => keep (h0 g)) (fun g => childs (h0 g)) (fun p j => (tabK cfL p j : EReal)) (fun p j => (tabK cfR p j : EReal))
    (fun p q => (tabM cfL p q : EReal)) (fun p q => (tabM cfR p q : EReal)) wl wr wt b where
  rows g p k := v16_at ρ R g p k
  kids g p j k := v19_at ρ R g p j k
  tl p j := (congrFun (W4_of m ρ c main_v40 (by decide +kernel)) _).trans (HostK.v40_at (W2 m ρ c) p j)
  tr p j := (congrFun (W4_of m ρ c main_v46 (by decide +kernel)) _).trans (HostK.v46_at (W2 m ρ c) p j)
  ml p q := (congrFun (W4_of m ρ c main_v68 (by decide +kernel)) _).trans (HostK.v68_at (W2 m ρ c) p q)
  mr p q := (congrFun (W4_of m ρ c main_v71 (by decide +kernel)) _).trans (HostK.v71_at (W2 m ρ c) p q)
  wl l k o := (congrFun (W4_args m ρ c main_arg6 (by decide +kernel)) _).trans (R.left l k o)
  wr l k o := (congrFun (W4_args m ρ c main_arg7 (by decide +kernel)) _).trans (R.right l k o)
  wt l k o := (congrFun (W4_args m ρ c main_arg8 (by decide +kernel)) _).trans (R.top l k o)
  off l o := (congrFun (W4_args m ρ c main_arg9 (by decide +kernel)) _).trans (R.off l o)

/-- The norms that the norm region leaves. -/
theorem v72_at (g : Fin 10) (n : Fin 10000) :
    (W5 m ρ c (Proc.devRef .tc main_v72) : S10x10000x1.Idx → EReal) (ix3 g n 0) = ((4 : ℝ) : EReal) * ∑ k, h0 g n k * h0 g n k := by
  rw [W5_of m ρ c main_v72 (by decide +kernel)]
  refine (congrFun (W4_arr m ρ c 1) _).trans ?_
  exact Regions.norm_at (V3 m ρ) c h0 (fun g n k => v15_at ρ R g n k) g n

/-- The norms that the tree region leaves. -/
theorem v73_0_at (g : Fin 10) (p : Fin 632) (hp : p.val < 625) :
    (W5 m ρ c (Proc.devRef .tc main_v73_0) : S10x632x1.Idx → EReal) (ix3 g p 0)
      = (norm2 (fun l => layers (h0 g) wl wr wt b l ⟨p.val, by omega⟩) : EReal) := by
  refine (congrFun (W5_arr m ρ c 10) _).trans ((Regions.tnorm_at (reads ρ R) g p).trans (congrArg norm2 (funext fun l => ?_)))
  exact (rows_eq (h0 g) wl wr wt b (R.realInit g) l).1 p hp

/-- The features that the tree region leaves. -/
theorem v73_1_at (g : Fin 10) (l : Fin 4) (p : Fin 632) (hp : p.val < 625) (k : Fin 128) :
    (W5 m ρ c (Proc.devRef .tc main_v73_1) : S10x4x632x128.Idx → EReal) (ix4 g l p k)
      = (layers (h0 g) wl wr wt b l ⟨p.val, by omega⟩ k : EReal) := by
  refine (congrFun (W5_arr m ρ c 11) _).trans ((Regions.feat_at (reads ρ R) g l p k).trans ?_)
  exact congrFun ((rows_eq (h0 g) wl wr wt b (R.realInit g) l).1 p hp) k

end Cert.KernelValue
-- ==== Proof.HostSel.lean ====
/- What the host operations between the tree region and the routing region put in their buffers. -/
module

public import proofs.«01_k».proof.Proof.Gen.KernelIdeal.Frame
public import proofs.«01_k».proof.Proof.SelReference
public import proofs.«01_k».proof.Proof.TableWords
public import Idealize.ShloMosaic.Lib.Pipeline.ValueKit
public import Idealize.ShloMosaic.Lib.StableHlo.ReadAt

@[expose] public section
set_option maxRecDepth 16384
noncomputable section
namespace Cert.HostK
open Idealize.ShloMosaic Idealize.ShloMosaic.TcCoe Cert.KernelIdeal Cert.KernelIdeal.Gen

variable (V : Valuation τ sig (Elt Ideal))

/-- The norms of all nodes of a graph. -/
theorem v78_at (g : Fin 10) (n : Fin 10000) : (StableHlo.after (hostOps2 (F := Ideal)) V (Proc.devRef .tc main_v78) : S10x10000.Idx → EReal) (ix2 g n)
    = if h : n.val < 625 then (V (Proc.devRef .tc main_v73_0) : S10x632x1.Idx → EReal) (ix3 g ⟨n.val, by omega⟩ 0)
      else (V (Proc.devRef .tc main_v72) : S10x10000x1.Idx → EReal) (ix3 g n 0) := by
  after_reads_at
  have e : 625 ≤ n.val → 625 + (n.val - 625) = n.val := fun h => by omega
  split_ifs with h h1
  · rfl
  · exact congrArg (V (Proc.devRef .tc main_v72) : S10x10000x1.Idx → EReal) (congrArg (ix3 g · 0) (Fin.ext (e (by omega))))
  · exact congrArg (V (Proc.devRef .tc main_v72) : S10x10000x1.Idx → EReal) (congrArg (ix3 g · 0) (Fin.ext (e (by omega))))

/-- The chosen nodes. -/
theorem indices_eq : StableHlo.after (hostOps2 (F := Ideal)) V (Proc.devRef .tc main_indices)
    = (Host.topK S10x16 1 (FloatOps.cmpfTotal (F := Ideal) (φ := .f32) .gt) (show S10x10000.Idx → Ideal .f32 from StableHlo.after (hostOps2 (F := Ideal)) V (Proc.devRef .tc main_v78)) Gen.sliceFits_S10x10000_S10x16).2 := by
  after_results

/-- The graph's number. -/
theorem v80_at (g : Fin 10) : (StableHlo.after (hostOps2 (F := Ideal)) V (Proc.devRef .tc main_v80) : S10x1.Idx → BitVec 32) (ix2 g 0) = BitVec.ofNat 32 g.val := by
  after_reads_at

/-- The clip's bounds. -/
theorem c25_eq : StableHlo.after (hostOps2 (F := Ideal)) V (Proc.devRef .tc main_c_25) = constantI S_ 32 0#32 := by
  after_results
theorem c26_eq : StableHlo.after (hostOps2 (F := Ideal)) V (Proc.devRef .tc main_c_26) = constantI S_ 32 631#32 := by
  after_results

/-- The clipped choice. -/
theorem v81_at (g : Fin 10) (t : Fin 16) (h25 : V (Proc.devRef .tc main_c_25) = constantI S_ 32 0#32) (h26 : V (Proc.devRef .tc main_c_26) = constantI S_ 32 631#32) :
    (StableHlo.after (hostOps2_1 (F := Ideal)) V (Proc.devRef .tc main_v81) : S10x16.Idx → BitVec 32) (ix2 g t)
    = IntOp.minsi 631#32 (IntOp.maxsi 0#32 ((V (Proc.devRef .tc main_indices) : S10x16.Idx → BitVec 32) (ix2 g t))) := by
  after_reads_at
  rw [h25, h26]
  rfl

/-- The index pairs of the features. -/
theorem v95_left (g : Fin 10) (t : Fin 16) (h : (V (Proc.devRef .tc main_v80) : S10x1.Idx → BitVec 32) (ix2 g 0) = BitVec.ofNat 32 g.val) :
    (StableHlo.after (hostOps2_2 (F := Ideal)) V (Proc.devRef .tc main_v95) : S10x16x2.Idx → BitVec 32) (ix3 g t 0) = BitVec.ofNat 32 g.val := by
  after_reads_at
  exact TreeR.wrap_word _ _ _ h (by omega)

theorem v95_right (g : Fin 10) (t : Fin 16) (n : ℕ) (hn : n < 2 ^ 31) (h : (V (Proc.devRef .tc main_v81) : S10x16.Idx → BitVec 32) (ix2 g t) = BitVec.ofNat 32 n) :
    (StableHlo.after (hostOps2_2 (F := Ideal)) V (Proc.devRef .tc main_v95) : S10x16x2.Idx → BitVec 32) (ix3 g t 1) = BitVec.ofNat 32 n := by
  after_reads_at
  exact TreeR.wrap_word _ _ _ h hn

/-- The index pairs of the leaves. -/
theorem v111_left (g : Fin 10) (t : Fin 16) (h : (V (Proc.devRef .tc main_v80) : S10x1.Idx → BitVec 32) (ix2 g 0) = BitVec.ofNat 32 g.val) :
    (StableHlo.after (hostOps2_2 (F := Ideal)) V (Proc.devRef .tc main_v111) : S10x16x2.Idx → BitVec 32) (ix3 g t 0) = BitVec.ofNat 32 g.val := by
  after_reads_at
  exact TreeR.wrap_word _ _ _ h (by omega)

theorem v111_right (g : Fin 10) (t : Fin 16) (n : ℕ) (hn : n < 2 ^ 31) (h : (V (Proc.devRef .tc main_indices) : S10x16.Idx → BitVec 32) (ix2 g t) = BitVec.ofNat 32 n) :
    (StableHlo.after (hostOps2_2 (F := Ideal)) V (Proc.devRef .tc main_v111) : S10x16x2.Idx → BitVec 32) (ix3 g t 1) = BitVec.ofNat 32 n := by
  after_reads_at
  exact TreeR.wrap_word _ _ _ h hn

theorem v96_eq : StableHlo.after (hostOps2_2 (F := Ideal)) V (Proc.devRef .tc main_v96)
    = Host.gather gather_S10x4x632x128_S10x16x2_S10x16x4x128_23_02_n_n_02_2_141128 (V (Proc.devRef .tc main_v73_1)) (StableHlo.after (hostOps2_2 (F := Ideal)) V (Proc.devRef .tc main_v95)) := by
  after_results

theorem v112_eq : StableHlo.after (hostOps2_2 (F := Ideal)) V (Proc.devRef .tc main_v112)
    = Host.gather gather_S10x10000x128_S10x16x2_S10x16x128_2_01_n_n_01_2_11128 (V (Proc.devRef .tc main_v15)) (StableHlo.after (hostOps2_2 (F := Ideal)) V (Proc.devRef .tc main_v111)) := by
  after_results

theorem v97_eq : StableHlo.after (hostOps2_2 (F := Ideal)) V (Proc.devRef .tc main_v97)
    = transpose S10x16x128x4 [0, 1, 3, 2] (StableHlo.after (hostOps2_2 (F := Ideal)) V (Proc.devRef .tc main_v96)) Gen.transposes_S10x16x4x128_S10x16x128x4_0_1_3_2 := by
  after_results

theorem v117_eq : StableHlo.after (hostOps2_2 (F := Ideal)) V (Proc.devRef .tc main_v117)
    = broadcastInDim S10x16x128x4 ![0, 1, 2, 3] Gen.bcast_S10x16x128x1_S10x16x128x4_0_1_2_3 (broadcastInDim S10x16x128x1 ![0, 1, 2] Gen.bcast_S10x16x128_S10x16x128x1_0_1_2 (StableHlo.after (hostOps2_2 (F := Ideal)) V (Proc.devRef .tc main_v112))) := by
  after_results

/-- Whether the choice is a node with children. -/
theorem v116_at (g : Fin 10) (t : Fin 16) : (StableHlo.after (hostOps2_2 (F := Ideal)) V (Proc.devRef .tc main_v116) : S10x16x1x1.Idx → BitVec 1) (ix4 g t 0 0)
    = IntOp.cmpi .slt ((V (Proc.devRef .tc main_indices) : S10x16.Idx → BitVec 32) (ix2 g t)) 625#32 := by
  after_reads_at

theorem v118_at (g : Fin 10) (t : Fin 16) (k : Fin 128) (l : Fin 4) : (StableHlo.after (hostOps2_3 (F := Ideal)) V (Proc.devRef .tc main_v118) : S10x16x128x4.Idx → EReal) (ix4 g t k l)
    = Scalar.select ((V (Proc.devRef .tc main_v116) : S10x16x1x1.Idx → BitVec 1) (ix4 g t 0 0)) ((V (Proc.devRef .tc main_v97) : S10x16x128x4.Idx → EReal) (ix4 g t k l))
       ((V (Proc.devRef .tc main_v117) : S10x16x128x4.Idx → EReal) (ix4 g t k l)) := by
  after_reads_at

theorem v120_at (g : Fin 10) (m : Fin 4) (i : Fin 2048) (t : Fin 16) (k : Fin 128) (hi : i.val = t.val * 128 + k.val) :
    (StableHlo.after (hostOps2_4 (F := Ideal)) V (Proc.devRef .tc main_v120) : S10x4x2048.Idx → EReal) (ix3 g m i)
    = (V (Proc.devRef .tc main_v118) : S10x16x128x4.Idx → EReal) (ix4 g t k m) := by
  after_reads_at
  have h1 : (⟨i.val / 128, by omega⟩ : Fin 16) = t := Fin.ext (show i.val / 128 = t.val by omega)
  have h2 : (⟨i.val % 128, by omega⟩ : Fin 128) = k := Fin.ext (show i.val % 128 = k.val by omega)
  exact congrArg (V (Proc.devRef .tc main_v118) : S10x16x128x4.Idx → EReal) (congrArg₂ (fun a b => ix4 g a b m) h1 h2)

theorem v124_at (m : Fin 4) (n : Fin 1024) (s : Fin 10) (q : Fin 16) (i : Fin 160) (hi : i.val = s.val * 16 + q.val) :
    (StableHlo.after (hostOps2_4 (F := Ideal)) V (Proc.devRef .tc main_v124) : S4x1024x160.Idx → EReal) (ix3 m n i)
    = (V (Proc.devRef .tc main_arg10) : S1024x16x10x4.Idx → EReal) (ix4 n q s m) := by
  after_reads_at
  have h1 : (⟨i.val / 16, by omega⟩ : Fin 10) = s := Fin.ext (show i.val / 16 = s.val by omega)
  have h2 : (⟨i.val % 16, by omega⟩ : Fin 16) = q := Fin.ext (show i.val % 16 = q.val by omega)
  exact congrArg (V (Proc.devRef .tc main_arg10) : S1024x16x10x4.Idx → EReal) (congrArg₂ (fun a b => ix4 n a b m) h2 h1)

/-- The result. -/
theorem v127_at (g : Fin 10) (s : Fin 10) :
    (StableHlo.after (hostOps3 (F := Ideal)) V (Proc.devRef .tc main_v127) : S10x10.Idx → EReal) (ix2 g s)
    = (V (Proc.devRef .tc main_v125) : S10x8x128.Idx → EReal) (ix3 g 0 ⟨s.val, by omega⟩) := by
  after_reads_at

/-- The clip of a small word. -/
theorem clip_word (n : ℕ) (hn : n < 2 ^ 31) : IntOp.minsi 631#32 (IntOp.maxsi 0#32 (BitVec.ofNat 32 n)) = BitVec.ofNat 32 (min n 631) := by
  have h : IntOp.maxsi 0#32 (BitVec.ofNat 32 n) = BitVec.ofNat 32 n := by
    unfold IntOp.maxsi
    rw [BitVec.slt, small n hn]
    have e : (0#32).toInt = 0 := rfl
    rw [e, if_neg (by simp)]
  rw [h]
  unfold IntOp.minsi
  rw [BitVec.slt, small n hn]
  have e : (631#32).toInt = 631 := rfl
  rw [e]
  by_cases hh : 631 < n
  · rw [if_pos (by simpa using hh), Nat.min_eq_right hh.le]
  · rw [if_neg (by simpa using hh), Nat.min_eq_left (by omega)]

/-- The features of a chosen node with children. -/
theorem v97_at (g : Fin 10) (t : Fin 16) (k : Fin 128) (l : Fin 4) (n : Fin 632) (h80 : (V (Proc.devRef .tc main_v80) : S10x1.Idx → BitVec 32) (ix2 g 0) = BitVec.ofNat 32 g.val)
    (h81 : (V (Proc.devRef .tc main_v81) : S10x16.Idx → BitVec 32) (ix2 g t) = BitVec.ofNat 32 n.val) :
    (StableHlo.after (hostOps2_2 (F := Ideal)) V (Proc.devRef .tc main_v97) : S10x16x128x4.Idx → EReal) (ix4 g t k l)
    = (V (Proc.devRef .tc main_v73_1) : S10x4x632x128.Idx → EReal) (ix4 g l n k) := by
  refine Eq.trans (b := (StableHlo.after (hostOps2_2 (F := Ideal)) V (Proc.devRef .tc main_v96) : S10x16x4x128.Idx → EReal) (ix4 g t l k)) ?_ ?_
  · rw [v97_eq]
    generalize StableHlo.after (hostOps2_2 (F := Ideal)) V (Proc.devRef .tc main_v96) = y
    pointwise
  · rw [v96_eq]
    exact Pick.gather_odd _ rfl rfl rfl rfl rfl rfl rfl _ _ g t l k g n (v95_left V g t h80) (v95_right V g t n.val (by omega) h81) (by norm_num) (by norm_num)

/-- The features of a chosen leaf. -/
theorem v117_at (g : Fin 10) (t : Fin 16) (k : Fin 128) (l : Fin 4) (n : Fin 10000) (h80 : (V (Proc.devRef .tc main_v80) : S10x1.Idx → BitVec 32) (ix2 g 0) = BitVec.ofNat 32 g.val)
    (hi : (V (Proc.devRef .tc main_indices) : S10x16.Idx → BitVec 32) (ix2 g t) = BitVec.ofNat 32 n.val) :
    (StableHlo.after (hostOps2_2 (F := Ideal)) V (Proc.devRef .tc main_v117) : S10x16x128x4.Idx → EReal) (ix4 g t k l)
    = (V (Proc.devRef .tc main_v15) : S10x10000x128.Idx → EReal) (ix3 g n k) := by
  refine Eq.trans (b := (StableHlo.after (hostOps2_2 (F := Ideal)) V (Proc.devRef .tc main_v112) : S10x16x128.Idx → EReal) (ix3 g t k)) ?_ ?_
  · rw [v117_eq]
    generalize StableHlo.after (hostOps2_2 (F := Ideal)) V (Proc.devRef .tc main_v112) = y
    pointwise
  · rw [v112_eq]
    exact Pick.gather_last1 _ rfl rfl rfl rfl rfl rfl rfl _ _ g t k g n (v111_left V g t h80) (v111_right V g t n.val (by omega) hi) (by norm_num) (by norm_num)

end Cert.HostK
-- ==== Proof.KernelValue.lean ====
/- The kernel's result: the routing of the features of the chosen nodes. -/
module

public import proofs.«01_k».proof.Proof.KernelTree
public import proofs.«01_k».proof.Proof.HostSel

@[expose] public section
set_option maxRecDepth 16384
noncomputable section
namespace Cert.KernelValue
open Idealize.ShloMosaic Idealize.ShloMosaic.TcCoe Cert.KernelIdeal Cert.KernelIdeal.Gen Cert.Tree

variable (ρ : Dev nD → PrngReg)
variable {m : (ℓ : Loc nD τ sig) → Buf (Elt Ideal) ℓ} {c : Dev nD} {h0 : Fin 10 → Fin 10000 → Fin 128 → EReal} {wl wr wt : Fin 4 → Fin 128 → Fin 128 → EReal} {b : Fin 4 → Fin 128 → EReal}
  (R : Inputs m c h0 wl wr wt b)

/-- Four equal terms. -/
theorem four_times (x : EReal) : x + x + x + x = ((4 : ℝ) : EReal) * x := by
  induction x with
  | coe x => rw [← EReal.coe_add, ← EReal.coe_add, ← EReal.coe_add, ← EReal.coe_mul]; congr 1; ring
  | top => rw [EReal.coe_mul_top_of_pos (by norm_num)]; rfl
  | bot => rw [EReal.coe_mul_bot_of_pos (by norm_num)]; rfl

/-- A leaf's four rows are its initial row, so its norm is four times that row's. -/
theorem norm_leaf (h0 : Fin 10000 → Fin 128 → EReal) (F : Real0 h0) (n : Fin 10000) (hn : 625 ≤ n.val) :
    norm2 (fun l => layers h0 wl wr wt b l n) = ((4 : ℝ) : EReal) * ∑ k, h0 n k * h0 n k := by
  unfold norm2
  have e : ∀ l : Fin 4, ∑ k, layers h0 wl wr wt b l n k * layers h0 wl wr wt b l n k = ∑ k, h0 n k * h0 n k := fun l => by
    rw [(rows_eq h0 wl wr wt b F l).2 n hn]
  rw [Finset.sum_congr rfl fun l _ => e l, Fin.sum_univ_four]
  exact four_times _

include R

omit R in
/-- A comparison with the number of nodes that have children. -/
theorem bit_lt (n : ℕ) : BitVec.ofBool (decide ((n : ℤ) < (625#32).toInt)) = BitVec.ofBool (decide (n < 625)) := by
  have e : (625#32).toInt = 625 := rfl
  rw [e]
  exact congrArg BitVec.ofBool (decide_eq_decide.mpr (by omega))

/-- The norms of all nodes. -/
theorem v78_at (g : Fin 10) (n : Fin 10000) :
    (W6 m ρ c (Proc.devRef .tc main_v78) : S10x10000.Idx → EReal) (ix2 g n) = (norm2 (fun l => layers (h0 g) wl wr wt b l n) : EReal) := by
  refine (HostK.v78_at (W5 m ρ c) g n).trans ?_
  by_cases h : n.val < 625
  · exact (dif_pos h).trans (v73_0_at ρ R g ⟨n.val, by omega⟩ h)
  · exact (dif_neg h).trans ((v72_at ρ R g n).trans (norm_leaf (h0 g) (R.realInit g) n (by omega)).symm)

omit R in
/-- The graph's number. -/
theorem v80_at (g : Fin 10) : (W7 m ρ c (Proc.devRef .tc main_v80) : S10x1.Idx → BitVec 32) (ix2 g 0) = BitVec.ofNat 32 g.val := by
  rw [W7_of m ρ c main_v80 (by decide +kernel)]
  exact HostK.v80_at (W5 m ρ c) g

/-- The features of a chosen node. -/
theorem chosen_at (g : Fin 10) (t : Fin 16) (k : Fin 128) (l : Fin 4) (n : Fin 10000)
    (hi : (W7 m ρ c (Proc.devRef .tc main_indices) : S10x16.Idx → BitVec 32) (ix2 g t) = BitVec.ofNat 32 n.val)
    (hc : (W7 m ρ c (Proc.devRef .tc main_v81) : S10x16.Idx → BitVec 32) (ix2 g t) = BitVec.ofNat 32 (min n.val 631)) :
    (W9 m ρ c (Proc.devRef .tc main_v118) : S10x16x128x4.Idx → EReal) (ix4 g t k l) = (layers (h0 g) wl wr wt b l n k : EReal) := by
  refine (HostK.v118_at (W8 m ρ c) g t k l).trans ?_
  have h116 : (W8 m ρ c (Proc.devRef .tc main_v116) : S10x16x1x1.Idx → BitVec 1) (ix4 g t 0 0) = BitVec.ofBool (decide (n.val < 625)) := by
    refine (HostK.v116_at (W7 m ρ c) g t).trans ?_
    rw [hi, HostK.slt_bit, HostK.small _ (by omega)]
    exact bit_lt _
  rw [h116, HostK.pick_bit]
  by_cases h : n.val < 625
  · rw [if_pos h]
    refine (HostK.v97_at (W7 m ρ c) g t k l ⟨n.val, by omega⟩ (v80_at ρ g) (hc.trans (congrArg (BitVec.ofNat 32) (Nat.min_eq_left (by omega))))).trans ?_
    rw [(W7_of m ρ c main_v73_1 (by decide +kernel)).trans (W6_of m ρ c main_v73_1 (by decide +kernel))]
    exact v73_1_at ρ R g l ⟨n.val, by omega⟩ h k
  · rw [if_neg h]
    refine (HostK.v117_at (W7 m ρ c) g t k l n (v80_at ρ g) hi).trans ?_
    rw [(W7_of m ρ c main_v15 (by decide +kernel)).trans ((W6_of m ρ c main_v15 (by decide +kernel)).trans
      ((W5_of m ρ c main_v15 (by decide +kernel)).trans (W4_of m ρ c main_v15 (by decide +kernel))))]
    refine (v15_at ρ R g n k).trans ?_
    exact (congrFun ((rows_eq (h0 g) wl wr wt b (R.realInit g) l).2 n (by omega)) k).symm

variable (Y : S10x10000.Idx → EReal) (hY : ∀ g n, Y (ix2 g n) = (norm2 (fun l => layers (h0 g) wl wr wt b l n) : EReal))
include hY

/-- The norms are the array of norms. -/
theorem v78_eq : W6 m ρ c (Proc.devRef .tc main_v78) = Y := by
  funext i
  obtain ⟨g, n, rfl⟩ : ∃ (g : Fin 10) (n : Fin 10000), i = ix2 g n := ⟨i 0, i 1, by funext a; match a with | ⟨0, _⟩ => rfl | ⟨1, _⟩ => rfl⟩
  exact (v78_at ρ R g n).trans (hY g n).symm

/-- The chosen nodes. -/
theorem indices_at (g : Fin 10) (t : Fin 16) :
    (W6 m ρ c (Proc.devRef .tc main_indices) : S10x16.Idx → BitVec 32) (ix2 g t) = BitVec.ofNat 32 (Pick.pick Y g ⟨t.val, by omega⟩).val := by
  have e : W6 m ρ c (Proc.devRef .tc main_indices) = (Host.topK S10x16 1 (FloatOps.cmpfTotal (F := Ideal) (φ := .f32) .gt)
      (show S10x10000.Idx → Ideal .f32 from W6 m ρ c (Proc.devRef .tc main_v78)) Gen.sliceFits_S10x10000_S10x16).2 := HostK.indices_eq (W5 m ρ c)
  rw [e, v78_eq ρ R Y hY]
  exact Pick.topK_at Y _ g t ⟨t.val, by omega⟩ rfl

/-- The chosen nodes, as the gathers find them. -/
theorem indices7_at (g : Fin 10) (t : Fin 16) :
    (W7 m ρ c (Proc.devRef .tc main_indices) : S10x16.Idx → BitVec 32) (ix2 g t) = BitVec.ofNat 32 (Pick.pick Y g ⟨t.val, by omega⟩).val := by
  rw [W7_of m ρ c main_indices (by decide +kernel)]
  exact indices_at ρ R Y hY g t

/-- The chosen nodes, clipped. -/
theorem v81_at (g : Fin 10) (t : Fin 16) :
    (W7 m ρ c (Proc.devRef .tc main_v81) : S10x16.Idx → BitVec 32) (ix2 g t) = BitVec.ofNat 32 (min (Pick.pick Y g ⟨t.val, by omega⟩).val 631) := by
  refine (HostK.v81_at (W6 m ρ c) g t (HostK.c25_eq (W5 m ρ c)) (HostK.c26_eq (W5 m ρ c))).trans ?_
  rw [indices_at ρ R Y hY g t]
  exact HostK.clip_word _ (by omega)

/-- The features of the chosen nodes. -/
theorem v118_at (g : Fin 10) (t : Fin 16) (k : Fin 128) (l : Fin 4) :
    (W9 m ρ c (Proc.devRef .tc main_v118) : S10x16x128x4.Idx → EReal) (ix4 g t k l)
      = (layers (h0 g) wl wr wt b l (Pick.pick Y g ⟨t.val, by omega⟩) k : EReal) :=
  chosen_at ρ R g t k l _ (indices7_at ρ R Y hY g t) (v81_at ρ R Y hY g t)

/-- The capsules of the routing. -/
def caps (h0 : Fin 10 → Fin 10000 → Fin 128 → EReal) (wl wr wt : Fin 4 → Fin 128 → Fin 128 → EReal) (b : Fin 4 → Fin 128 → EReal) (Y : S10x10000.Idx → EReal)
    (g : Fin 10) (i : Fin 2048) (l : Fin 4) : EReal :=
  (layers (h0 g) wl wr wt b l (Pick.pick Y g ⟨i.val / 128, by omega⟩) ⟨i.val % 128, by omega⟩ : EReal)

/-- The capsules that the routing region reads. -/
theorem v120_at (g : Fin 10) (l : Fin 4) (i : Fin 2048) :
    (W10 m ρ c (Proc.devRef .tc main_v120) : S10x4x2048.Idx → EReal) (ix3 g l i) = caps h0 wl wr wt b Y g i l :=
  (HostK.v120_at (W9 m ρ c) g l i ⟨i.val / 128, by omega⟩ ⟨i.val % 128, by omega⟩ (show i.val = i.val / 128 * 128 + i.val % 128 by omega)).trans
    (v118_at ρ R Y hY g _ _ l)

omit R hY in
/-- The routing weights that the routing region reads. -/
theorem v124_at (l : Fin 4) (n : Fin 1024) (s : Fin 10) (q : Fin 16) :
    (W10 m ρ c (Proc.devRef .tc main_v124) : S4x1024x160.Idx → EReal) (ix3 l n (Route.at160 s q))
      = (m ((c : Thread nD τ).loc main_arg10) : S1024x16x10x4.Idx → EReal) (ix4 n q s l) :=
  (HostK.v124_at (W9 m ρ c) l n s q _ rfl).trans (congrFun (W9_args m ρ c main_arg10 (by decide +kernel)) _)

omit R hY in
/-- A buffer of the first host operations that nothing writes afterwards, when the routing region reads it. -/
theorem keep_first (r : Ref sig .tc) (h2 : r ∉ hostOps0_1_W) (h3 : r ∉ hostOps0_2_W)
    (h4 : ∀ w : Fin cfg0.W, Pipeline.arrRef spec0 w = r → (cfg0.win w).isOut = false) (h5 : ∀ w : Fin cfg1.W, Pipeline.arrRef spec1 w = r → (cfg1.win w).isOut = false)
    (h6 : r ∉ hostOps2_W) (h7 : r ∉ hostOps2_1_W) (h8 : r ∉ hostOps2_2_W) (h9 : r ∉ hostOps2_3_W) (h10 : r ∉ hostOps2_4_W) :
    W10 m ρ c (Proc.devRef .tc r) = W1 m ρ c (Proc.devRef .tc r) :=
  (W10_of m ρ c r h10).trans ((W9_of m ρ c r h9).trans ((W8_of m ρ c r h8).trans ((W7_of m ρ c r h7).trans ((W6_of m ρ c r h6).trans
    ((W5_of m ρ c r h5).trans ((W4_of m ρ c r h4).trans ((W3_of m ρ c r h3).trans (W2_of m ρ c r h2))))))))

/-- The kernel's result: each graph's capsules routed to the classes. -/
theorem result_at (g s : Fin 10) :
    (W12 m ρ c (Proc.devRef .tc main_v127) : S10x10.Idx → EReal) (ix2 g s)
      = Route.route (caps h0 wl wr wt b Y g) (RouteK.firstCaps (caps h0 wl wr wt b Y g))
          (fun n q s l => (m ((c : Thread nD τ).loc main_arg10) : S1024x16x10x4.Idx → EReal) (ix4 n q s l)) s := by
  refine (HostK.v127_at (W11 m ρ c) g s).trans ?_
  refine (congrFun (W11_arr m ρ c 5) _).trans ?_
  exact Regions.route_at (c := c) (V := V10 m ρ) (caps h0 wl wr wt b Y) _ (fun g l i => v120_at ρ R Y hY g l i) (fun l n s q => v124_at ρ l n s q)
    (fun s q => (congrFun (keep_first ρ main_cst (by decide +kernel) (by decide +kernel) (by decide +kernel) (by decide +kernel) (by decide +kernel) (by decide +kernel) (by decide +kernel) (by decide +kernel) (by decide +kernel)) _).trans (HostK.cst_at (W0 m ρ c) s q))
    (fun s q => (congrFun (keep_first ρ main_cst_0 (by decide +kernel) (by decide +kernel) (by decide +kernel) (by decide +kernel) (by decide +kernel) (by decide +kernel) (by decide +kernel) (by decide +kernel) (by decide +kernel)) _).trans (HostK.cst0_at (W0 m ρ c) s q))
    (fun s l => (congrFun (keep_first ρ main_cst_1 (by decide +kernel) (by decide +kernel) (by decide +kernel) (by decide +kernel) (by decide +kernel) (by decide +kernel) (by decide +kernel) (by decide +kernel) (by decide +kernel)) _).trans (HostK.cst1_at (W0 m ρ c) s l))
    g 0 ⟨s.val, by omega⟩ s.isLt

end Cert.KernelValue
-- ==== Proof.ReferenceValue.lean ====
/- The reference's result: the routing of the features of the chosen nodes. -/
module

public import proofs.«01_k».proof.Proof.SelReference
public import proofs.«01_k».proof.Proof.KernelValue

@[expose] public section
set_option maxRecDepth 16384
noncomputable section
namespace Cert.TreeR
open Idealize.ShloMosaic
open Cert.ReferenceIdeal Cert.ReferenceIdeal.Read Cert.ReferenceIdeal.Gen Cert.Tree

variable {x0 x1 : IVec S100000 32} {x2 : IVec S2x99990 32} {x3 : IVec S99990 32} {x4 : FVec Ideal S100x64 .f32} {x5 : FVec Ideal S10000x64 .f32}
  {x6 x7 x8 : FVec Ideal S4x128x128 .f32} {x9 : FVec Ideal S4x1x128 .f32} (x10 : FVec Ideal S1024x16x10x4 .f32)
variable {h0 : Fin 10 → Fin 10000 → Fin 128 → EReal} {wl wr wt : Fin 4 → Fin 128 → Fin 128 → EReal} {b : Fin 4 → Fin 128 → EReal}
  (E : Edges (val_main_v1 (F := Ideal) x2) (val_main_v3 (F := Ideal) x2) x3)
  (R : Reals (val_main_v18 (F := Ideal) x0 x1 x4 x5) x6 x7 x8 x9 h0 wl wr wt b)
include E R

/-- The reference's result: each graph's capsules routed to the classes. -/
theorem result_at (g s : Fin 10) : val_main_v372 (F := Ideal) x0 x1 x2 x3 x4 x5 x6 x7 x8 x9 x10 (ix2 g s)
    = Route.route (KernelValue.caps h0 wl wr wt b (val_main_v189 (F := Ideal) x0 x1 x2 x3 x4 x5 x6 x7 x8 x9) g)
        (RouteK.firstCaps (KernelValue.caps h0 wl wr wt b (val_main_v189 (F := Ideal) x0 x1 x2 x3 x4 x5 x6 x7 x8 x9) g))
        (fun n q s l => x10 (ix4 n q s l)) s := by
  rw [RouteR.val_route_eq]
  have hU : ∀ g i l, val_main_v207 (F := Ideal) x0 x1 x2 x3 x4 x5 x6 x7 x8 x9 (ix3 g i l)
      = KernelValue.caps h0 wl wr wt b (val_main_v189 (F := Ideal) x0 x1 x2 x3 x4 x5 x6 x7 x8 x9) g i l := fun g i l =>
    v207_at E R g ⟨i.val / 128, by omega⟩ ⟨i.val % 128, by omega⟩ l i (show i.val = i.val / 128 * 128 + i.val % 128 by omega)
  have hV : ∀ g i l, val_main_v223 (F := Ideal) x0 x1 x2 x3 x4 x5 x6 x7 x8 x9 (ix3 g i l)
      = RouteK.firstCaps (KernelValue.caps h0 wl wr wt b (val_main_v189 (F := Ideal) x0 x1 x2 x3 x4 x5 x6 x7 x8 x9) g) i l := fun g i l =>
    v223_at E R g ⟨i.val / 128, by omega⟩ ⟨i.val % 128, by omega⟩ l i (show i.val = i.val / 128 * 128 + i.val % 128 by omega)
  generalize val_main_v207 (F := Ideal) x0 x1 x2 x3 x4 x5 x6 x7 x8 x9 = U at hU ⊢
  generalize val_main_v223 (F := Ideal) x0 x1 x2 x3 x4 x5 x6 x7 x8 x9 = V' at hV ⊢
  generalize KernelValue.caps h0 wl wr wt b (val_main_v189 (F := Ideal) x0 x1 x2 x3 x4 x5 x6 x7 x8 x9) = u at hU hV ⊢
  exact RouteR.routeStep_at U u hU V' (fun g => RouteK.firstCaps (u g)) hV x10 g s

end Cert.TreeR
-- ==== Proof.PreReadout.lean ====
/- What the precondition says: the edges are those of the fixed forest, and the embedding tables and the matrices of the children hold real numbers. -/
module

public import proofs.«01_k».proof.Pre_tree_edges_finite_floats
public import proofs.«01_k».proof.Proof.TreeStates
public import Idealize.ShloMosaic.Lib.Routing.Words
public import Idealize.ShloMosaic.Lib.Pipeline.Value

@[expose] public section
set_option maxRecDepth 16384
noncomputable section
namespace Cert.PreR
open Idealize.ShloMosaic Cert.Tree Cert.TreeR

/-- The side conditions of the precondition's own operations. -/
theorem facts : Cert.Pre_tree_edges_finite_floats.Facts where
  bcast_S_S99990 := by decide
  slices_S2x99990_S1x99990_0_0 := by decide
  shapeCasts_S1x99990_S99990 := by decide
  slices_S2x99990_S1x99990_1_0 := by decide
  bcast_S_S100x64 := by decide
  bcast_S_S10000x64 := by decide
  bcast_S_S4x128x128 := by decide

/-- An equality test that reads true. -/
theorem eq_of_cmpi {x y : BitVec 32} (h : IntOp.cmpi .eq x y = 1#1) : x = y := by
  have h' : BitVec.ofBool (x == y) = 1#1 := h
  by_contra hn
  have e : (x == y) = false := by simpa using hn
  rw [e] at h'
  exact absurd h' (by decide)

/-- The literal infinity. -/
theorem infinite : Ideal.ofBits .f32 0x7F800000#32 = (⊤ : EReal) := by
  simp [Ideal.ofBits, Ideal.ieee]

/-- A value whose magnitude is below infinity is a real number. -/
theorem real_of_cmpf {x : EReal} (h : Ideal.cmp .olt (max x (-x)) (Ideal.ofBits .f32 0x7F800000#32) = 1#1) : ∃ r : ℝ, x = (r : EReal) := by
  rw [infinite] at h
  have h' : BitVec.ofBool (decide (max x (-x) < (⊤ : EReal))) = 1#1 := h
  by_cases hlt : max x (-x) < (⊤ : EReal)
  · induction x with
    | bot => simp at hlt
    | top => simp at hlt
    | coe r => exact ⟨r, rfl⟩
  · rw [decide_eq_false hlt] at h'
    exact absurd h' (by decide)

section
open Cert.Pre_tree_edges_finite_floats
attribute [local instance] facts

variable {x0 x1 : IVec S100000 32} {x2 : IVec S2x99990 32} {x3 : IVec S99990 32} {x4 : FVec Ideal S100x64 .f32} {x5 : FVec Ideal S10000x64 .f32}
  {x6 x7 x8 : FVec Ideal S4x128x128 .f32} {x9 : FVec Ideal S4x1x128 .f32} {x10 : FVec Ideal S1024x16x10x4 .f32}

/-- The remainder of a position by a literal. -/
theorem word_rem (n d : ℕ) (hn : n < 2 ^ 31) (h0 : 0 < d) (hd : d < 2 ^ 31) :
    Idealize.ShloMosaic.IntOp.remsi .host (BitVec.ofNat 32 n) (BitVec.ofNat 32 d) = BitVec.ofNat 32 (n % d) := Routing.remsi_word _ hn h0 hd

/-- The quotient of a position by a literal. -/
theorem word_div (n d : ℕ) (hn : n < 2 ^ 31) (h0 : 0 < d) (hd : d < 2 ^ 31) :
    Idealize.ShloMosaic.IntOp.divsi .host (BitVec.ofNat 32 n) (BitVec.ofNat 32 d) = BitVec.ofNat 32 (n / d) := Routing.divsi_word _ hn h0 hd

/-- The parents' row of the edge list. -/
theorem src_of (h : (fn (F := Ideal) x0 x1 x2 x3 x4 x5 x6 x7 x8 x9 x10).1 = fun _ => 1#1) (e : Fin 99990) :
    Cert.ReferenceIdeal.Read.val_main_v1 (F := Ideal) x2 (ix1 e) = BitVec.ofNat 32 (srcN e.val) := by
  have k := eq_of_cmpi (congrFun h (ix1 e))
  refine Eq.trans k ?_
  show IntOp.addi (IntOp.addi (IntOp.remsi .host (BitVec.ofNat 32 e.val) (BitVec.ofNat 32 9999)) (BitVec.ofNat 32 1))
      (IntOp.muli (IntOp.divsi .host (BitVec.ofNat 32 e.val) (BitVec.ofNat 32 9999)) (BitVec.ofNat 32 10000)) = _
  rw [word_rem _ _ (by omega) (by omega) (by omega), word_div _ _ (by omega) (by omega) (by omega)]
  show (BitVec.ofNat 32 _ + BitVec.ofNat 32 1) + BitVec.ofNat 32 _ * BitVec.ofNat 32 10000 = _
  rw [← BitVec.ofNat_mul, ← BitVec.ofNat_add, ← BitVec.ofNat_add]
  congr 1
  unfold srcN
  omega

/-- The children's row of the edge list. -/
theorem dst_of (h : (fn (F := Ideal) x0 x1 x2 x3 x4 x5 x6 x7 x8 x9 x10).2.1 = fun _ => 1#1) (e : Fin 99990) :
    Cert.ReferenceIdeal.Read.val_main_v3 (F := Ideal) x2 (ix1 e) = BitVec.ofNat 32 (dstN e.val) := by
  have k := eq_of_cmpi (congrFun h (ix1 e))
  refine Eq.trans k ?_
  show IntOp.addi (IntOp.divsi .host (IntOp.remsi .host (BitVec.ofNat 32 e.val) (BitVec.ofNat 32 9999)) (BitVec.ofNat 32 16))
      (IntOp.muli (IntOp.divsi .host (BitVec.ofNat 32 e.val) (BitVec.ofNat 32 9999)) (BitVec.ofNat 32 10000)) = _
  rw [word_rem _ _ (by omega) (by omega) (by omega), word_div _ _ (by omega) (by omega) (by omega), word_div _ _ (by omega) (by omega) (by omega)]
  show BitVec.ofNat 32 _ + BitVec.ofNat 32 _ * BitVec.ofNat 32 10000 = _
  rw [← BitVec.ofNat_mul, ← BitVec.ofNat_add]
  congr 1
  unfold dstN
  omega

/-- The places of the children. -/
theorem pos_of (h : (fn (F := Ideal) x0 x1 x2 x3 x4 x5 x6 x7 x8 x9 x10).2.2.1 = fun _ => 1#1) (e : Fin 99990) :
    x3 (ix1 e) = BitVec.ofNat 32 (posN e.val) := by
  have k := eq_of_cmpi (congrFun h (ix1 e))
  refine Eq.trans k ?_
  show IntOp.remsi .host (IntOp.remsi .host (BitVec.ofNat 32 e.val) (BitVec.ofNat 32 9999)) (BitVec.ofNat 32 16) = _
  rw [word_rem _ _ (by omega) (by omega) (by omega), word_rem _ _ (by omega) (by omega) (by omega)]
  rfl

/-- The embedding tables and the matrices of the children hold real numbers. -/
theorem real4 (h : (fn (F := Ideal) x0 x1 x2 x3 x4 x5 x6 x7 x8 x9 x10).2.2.2.1 = fun _ => 1#1) (i) : ∃ r : ℝ, x4 i = (r : EReal) :=
  real_of_cmpf (congrFun h i)
theorem real5 (h : (fn (F := Ideal) x0 x1 x2 x3 x4 x5 x6 x7 x8 x9 x10).2.2.2.2.1 = fun _ => 1#1) (i) : ∃ r : ℝ, x5 i = (r : EReal) :=
  real_of_cmpf (congrFun h i)
theorem real6 (h : (fn (F := Ideal) x0 x1 x2 x3 x4 x5 x6 x7 x8 x9 x10).2.2.2.2.2.1 = fun _ => 1#1) (i) : ∃ r : ℝ, x6 i = (r : EReal) :=
  real_of_cmpf (congrFun h i)
theorem real7 (h : (fn (F := Ideal) x0 x1 x2 x3 x4 x5 x6 x7 x8 x9 x10).2.2.2.2.2.2 = fun _ => 1#1) (i) : ∃ r : ℝ, x7 i = (r : EReal) :=
  real_of_cmpf (congrFun h i)
end

section
open Cert.ReferenceIdeal Cert.ReferenceIdeal.Read Cert.ReferenceIdeal.Gen

/-- The leaves' features hold real numbers when both tables do. -/
theorem real_leaves (x0 x1 : IVec S100000 32) {x4 : FVec Ideal S100x64 .f32} {x5 : FVec Ideal S10000x64 .f32}
    (r4 : ∀ i, ∃ r : ℝ, x4 i = (r : EReal)) (r5 : ∀ i, ∃ r : ℝ, x5 i = (r : EReal)) (i : S100000x128.Idx) :
    ∃ r : ℝ, val_main_v18 (F := Ideal) x0 x1 x4 x5 i = (r : EReal) := by
  have g4 : ∀ j, ∃ r : ℝ, val_main_v10 (F := Ideal) x0 x4 j = (r : EReal) := fun j => r4 _
  have g5 : ∀ j, ∃ r : ℝ, val_main_v17 (F := Ideal) x1 x5 j = (r : EReal) := fun j => r5 _
  unfold val_main_v18
  rw [concatenate_pair_apply]
  split_ifs
  · exact g4 _
  · exact g5 _

/-- The arguments give the initial states, the matrices and the offsets; real tables and matrices give real ones. -/
theorem reals_of (x0 x1 : IVec S100000 32) {x4 : FVec Ideal S100x64 .f32} {x5 : FVec Ideal S10000x64 .f32}
    {x6 x7 x8 : FVec Ideal S4x128x128 .f32} {x9 : FVec Ideal S4x1x128 .f32}
    (r4 : ∀ i, ∃ r : ℝ, x4 i = (r : EReal)) (r5 : ∀ i, ∃ r : ℝ, x5 i = (r : EReal)) (r6 : ∀ i, ∃ r : ℝ, x6 i = (r : EReal))
    (r7 : ∀ i, ∃ r : ℝ, x7 i = (r : EReal)) :
    ∃ h0 wl wr wt b, Reals (val_main_v18 (F := Ideal) x0 x1 x4 x5) x6 x7 x8 x9 h0 wl wr wt b := by
  have r18 := real_leaves x0 x1 r4 r5
  exact ⟨fun g n c => val_main_v18 (F := Ideal) x0 x1 x4 x5 (ix2 (node g n) c), fun l k c => x6 (ix3 l k c), fun l k c => x7 (ix3 l k c),
    fun l k c => x8 (ix3 l k c), fun l c => x9 (ix3 l 0 c),
    ⟨fun _ _ _ => rfl, fun _ _ _ => rfl, fun _ _ _ => rfl, fun _ _ _ => rfl, fun _ _ => rfl, fun _ _ _ => r18 _, fun _ _ _ => r6 _, fun _ _ _ => r7 _⟩⟩
end

end Cert.PreR
-- ==== Proof.Equation.lean ====
/- The two programs' results are one array when the precondition holds. -/
module

public import proofs.«01_k».proof.Proof.ReferenceValue
public import proofs.«01_k».proof.Proof.PreReadout

@[expose] public section
set_option maxRecDepth 16384
noncomputable section
namespace Cert.KernelValue
open Idealize.ShloMosaic Idealize.ShloMosaic.TcCoe Cert.KernelIdeal Cert.KernelIdeal.Gen Cert.Tree

/-- The kernel's result array is the reference's, on the forest's edges and real-valued embedding tables and children's matrices. -/
theorem equation (m : (ℓ : Loc nD τ sig) → Buf (Elt Ideal) ℓ) (ρ : Dev nD → PrngReg) (c : Dev nD)
    (E : TreeR.Edges (Cert.ReferenceIdeal.Read.val_main_v1 (F := Ideal) (m ((c : Thread nD τ).loc main_arg2)))
      (Cert.ReferenceIdeal.Read.val_main_v3 (F := Ideal) (m ((c : Thread nD τ).loc main_arg2))) (m ((c : Thread nD τ).loc main_arg3)))
    (R : ∃ h0 wl wr wt b, Inputs m c h0 wl wr wt b) :
    (W12 m ρ c (Proc.devRef .tc main_v127) : S10x10.Idx → EReal)
      = Cert.ReferenceIdeal.Read.val_main_v372 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  obtain ⟨h0, wl, wr, wt, b, R⟩ := R
  funext i
  have hi : i = ix2 (i 0) (i 1) := by funext a; match a with | ⟨0, _⟩ => rfl | ⟨1, _⟩ => rfl
  rw [hi]
  exact (result_at ρ R _ (fun g n => TreeR.v189_at E R g n) (i 0) (i 1)).trans
    (TreeR.result_at (m ((c : Thread nD τ).loc main_arg10)) E R (i 0) (i 1)).symm

end Cert.KernelValue
-- ==== Proof.lean ====
/- The proof of the claim: the kernel's frames, the reference's frame, the trivial `preserves`, and the equality of the two
   programs' results on the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem

/-- The reference runs, its arguments end unchanged, and it declares no semaphore, so every counter reads zero. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The two results agree whenever the precondition holds. -/
theorem equal_results : letI := Cert.PreR.facts; Cert.algebraic_KernelIdeal_ReferenceIdeal_pre_tree_edges_finite_floats
    (hKernelIdeal := Cert.KernelIdeal.Gen.facts) (hReferenceIdeal := Cert.ReferenceIdeal.Gen.facts) (hPre_tree_edges_finite_floats := Cert.PreR.facts) := by
  intro m ρ m' ρ' hpre hargs
  let V : (c : Dev Cert.KernelIdeal.nD) → Buf (Elt Ideal) ((c.tc : Thread Cert.KernelIdeal.nD Cert.KernelIdeal.τ).loc Cert.KernelIdeal.main_v127) :=
    fun c => Cert.KernelIdeal.Gen.W12 m ρ c (Proc.devRef .tc Cert.KernelIdeal.main_v127)
  have key : ∀ c : Dev Cert.KernelIdeal.nD, V c = Cert.ReferenceIdeal.Read.val_main_v372 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) := by
    intro c
    obtain ⟨p1, p2, p3, p4, p5, p6, p7⟩ := hpre c
    exact Cert.KernelValue.equation m ρ c ⟨Cert.PreR.src_of p1, Cert.PreR.dst_of p2, Cert.PreR.pos_of p3⟩
      (Cert.PreR.reals_of _ _ (Cert.PreR.real4 p4) (Cert.PreR.real5 p5) (Cert.PreR.real6 p6) (Cert.PreR.real7 p7))
  refine ⟨V, V, ?_, ?_⟩
  · exact (θ_run Cert.KernelIdeal.defs _ _).mono (fun r h c => ⟨(h c).1, (h c).1, (h c).2⟩) (Cert.KernelRun.run (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9, a10⟩ := hargs c
    have e : r.2.mem ((c.tc : Thread Cert.ReferenceIdeal.nD Cert.ReferenceIdeal.τ).loc Cert.ReferenceIdeal.main_v372) = V c := by
      refine ((h c).1.trans (Cert.ReferenceIdeal.Read.val_main_v372_eq (F := Ideal) _)).trans ?_
      rw [key c, ← a0, ← a1, ← a2, ← a3, ← a4, ← a5, ← a6, ← a7, ← a8, ← a9, ← a10]
    exact ⟨e, e, (h c).2.2⟩

/-- Every claim. -/
theorem claim : Cert.Claim := ⟨Cert.Kernel.Gen.facts, Cert.KernelIdeal.Gen.facts, Cert.ReferenceIdeal.Gen.facts, Cert.PreR.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, equal_results⟩

end Cert.Proof

end
